-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_served_KernelIdeal [hPre_served_KernelIdeal : Cert.Pre_served_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_served_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_served_ReferenceIdeal [hPre_served_ReferenceIdeal : Cert.Pre_served_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_served_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_served_KernelIdeal [hKernelIdeal : Cert.KernelIdeal.Facts] [hPre_served_KernelIdeal : Cert.Pre_served_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_served_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_served_ReferenceIdeal [hReferenceIdeal : Cert.ReferenceIdeal.Facts] [hPre_served_ReferenceIdeal : Cert.Pre_served_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_served_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_served_KernelIdeal [hKernelIdeal : Cert.KernelIdeal.Facts] [hReferenceIdeal : Cert.ReferenceIdeal.Facts] [hPre_served_KernelIdeal : Cert.Pre_served_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_served_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![65536, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_served_KernelIdeal : Cert.Pre_served_KernelIdeal.Facts) (hPre_served_ReferenceIdeal : Cert.Pre_served_ReferenceIdeal.Facts),
    quiescent_Kernel (hKernel := hKernel)
    ∧ quiescent_KernelIdeal (hKernelIdeal := hKernelIdeal)
    ∧ quiescent_KernelIdeal_pre_served_KernelIdeal (hKernelIdeal := hKernelIdeal) (hPre_served_KernelIdeal := hPre_served_KernelIdeal)
    ∧ quiescent_ReferenceIdeal (hReferenceIdeal := hReferenceIdeal)
    ∧ quiescent_ReferenceIdeal_pre_served_ReferenceIdeal (hReferenceIdeal := hReferenceIdeal) (hPre_served_ReferenceIdeal := hPre_served_ReferenceIdeal)
    ∧ preserves_Kernel_KernelIdeal
    ∧ algebraic_KernelIdeal_ReferenceIdeal_pre_served_KernelIdeal (hKernelIdeal := hKernelIdeal) (hReferenceIdeal := hReferenceIdeal) (hPre_served_KernelIdeal := hPre_served_KernelIdeal)
-- ==== Pre_served_KernelIdeal.lean ====
abbrev S4096x512 : Shape := ⟨2, ![4096, 512]⟩
abbrev S1024 : Shape := ⟨1, ![1024]⟩
abbrev S_ : Shape := ⟨0, ![]⟩
abbrev S1024x1 : Shape := ⟨2, ![1024, 1]⟩
abbrev S1024x16 : Shape := ⟨2, ![1024, 16]⟩
abbrev S16 : Shape := ⟨1, ![16]⟩
abbrev S16x64x16 : Shape := ⟨3, ![16, 64, 16]⟩
abbrev S16x16 : Shape := ⟨2, ![16, 16]⟩

class Facts : Prop where
  bcast_S_S1024 : S_.BroadcastsInDim S1024 (![] : Fin 0 → Fin S1024.rank)
  shapeCasts_S1024_S1024x1 : S1024.ShapeCasts S1024x1
  bcast_S1024x1_S1024x16_0_1 : S1024x1.BroadcastsInDim S1024x16 (![0, 1] : Fin 2 → Fin S1024x16.rank)
  natLt_1_32 : 1 < 32
  reducesTo_S1024_S_d0 : S1024.ReducesTo [0] S_
  h_S_ : 0 < S_.numel
  reducesTo_S1024x16_S16_d0 : S1024x16.ReducesTo [0] S16
  bcast_S_S16 : S_.BroadcastsInDim S16 (![] : Fin 0 → Fin S16.rank)
  reducesTo_S16_S_d0 : S16.ReducesTo [0] S_
  shapeCasts_S1024x16_S16x64x16 : S1024x16.ShapeCasts S16x64x16
  reducesTo_S16x64x16_S16x16_d1 : S16x64x16.ReducesTo [1] S16x16
  bcast_S_S16x16 : S_.BroadcastsInDim S16x16 (![] : Fin 0 → Fin S16x16.rank)
  reducesTo_S16x16_S_d0_1 : S16x16.ReducesTo [0, 1] S_

variable [Facts]

def fn_where {F : FTy → Type} [FloatOps F] (arg0 : IVec S1024 1) (arg1 : IVec S1024 32) (arg2 : IVec S1024 32) : IVec S1024 32 :=
  let v0 : IVec S1024 32 := select arg0 arg1 arg2
  v0

def fn_floor_divide {F : FTy → Type} [FloatOps F] (arg0 : IVec S1024 32) (arg1 : IVec S_ 32) : IVec S1024 32 :=
  let v0 : IVec S_ 32 := id arg1
  let v1 : IVec S1024 32 := broadcastInDim S1024 ![] bcast_S_S1024 v0
  let v2 : IVec S1024 32 := Host.divsi arg0 v1
  let v3 : IVec S1024 32 := signi arg0
  let v4 : IVec S_ 32 := signi v0
  let v5 : IVec S1024 32 := broadcastInDim S1024 ![] bcast_S_S1024 v4
  let v6 : IVec S1024 1 := cmpi .ne v3 v5
  let v7 : IVec S1024 32 := broadcastInDim S1024 ![] bcast_S_S1024 v0
  let v8 : IVec S1024 32 := Host.remsi arg0 v7
  let c : IVec S_ 32 := constantI S_ 32 0#32
  let v9 : IVec S1024 32 := broadcastInDim S1024 ![] bcast_S_S1024 c
  let v10 : IVec S1024 1 := cmpi .ne v8 v9
  let v11 : IVec S1024 1 := andi v6 v10
  let c_0 : IVec S_ 32 := constantI S_ 32 1#32
  let v12 : IVec S1024 32 := broadcastInDim S1024 ![] bcast_S_S1024 c_0
  let v13 : IVec S1024 32 := subi v2 v12
  let v14 : IVec S1024 32 := fn_where (F := F) v11 v13 v2
  v14

def fn_part1 {F : FTy → Type} [FloatOps F] (main_v11 : IVec S_ 1) (main_v15 : IVec S_ 1) (main_v16 : IVec S16x64x16 32) : IVec S_ 1 :=
  let main_c_6 : IVec S_ 32 := constantI S_ 32 0#32
  let main_v17 : IVec S16x16 32 := (fun x v => Host.reduce IntOp.addi x v reducesTo_S16x64x16_S16x16_d1 h_S_) main_v16 main_c_6
  let main_c_7 : IVec S_ 32 := constantI S_ 32 16#32
  let main_v18 : IVec S16x16 32 := broadcastInDim S16x16 ![] bcast_S_S16x16 main_c_7
  let main_v19 : IVec S16x16 1 := cmpi .sle main_v17 main_v18
  let main_c_8 : IVec S_ 1 := constantI S_ 1 1#1
  let main_v20 : IVec S_ 1 := (fun x v => Host.reduce IntOp.andi x v reducesTo_S16x16_S_d0_1 h_S_) main_v19 main_c_8
  let main_v21 : IVec S_ 1 := andi main_v15 main_v20
  let main_v22 : IVec S_ 1 := andi main_v11 main_v21
  main_v22

def fn {F : FTy → Type} [FloatOps F] (main_arg0 : FVec F S4096x512 .bf16) (main_arg1 : IVec S1024 32) : IVec S_ 1 :=
  let main_c : IVec S_ 32 := constantI S_ 32 4096#32
  let main_v0 : IVec S1024 32 := fn_floor_divide (F := F) main_arg1 main_c
  let main_v1 : IVec S1024x1 32 := shapeCast S1024x1 main_v0 shapeCasts_S1024_S1024x1
  let main_v2 : IVec S1024x16 32 := iotaInDim S1024x16 32 1
  let main_v3 : IVec S1024x16 32 := broadcastInDim S1024x16 ![0, 1] bcast_S1024x1_S1024x16_0_1 main_v1
  let main_v4 : IVec S1024x16 1 := cmpi .eq main_v3 main_v2
  let main_v5 : IVec S1024x16 32 := (extui 32 · natLt_1_32) main_v4
  let main_c_0 : IVec S_ 32 := constantI S_ 32 0#32
  let main_v6 : IVec S1024 32 := broadcastInDim S1024 ![] bcast_S_S1024 main_c_0
  let main_v7 : IVec S1024 1 := cmpi .sge main_arg1 main_v6
  let main_c_1 : IVec S_ 32 := constantI S_ 32 65536#32
  let main_v8 : IVec S1024 32 := broadcastInDim S1024 ![] bcast_S_S1024 main_c_1
  let main_v9 : IVec S1024 1 := cmpi .slt main_arg1 main_v8
  let main_v10 : IVec S1024 1 := andi main_v7 main_v9
  let main_c_2 : IVec S_ 1 := constantI S_ 1 1#1
  let main_v11 : IVec S_ 1 := (fun x v => Host.reduce IntOp.andi x v reducesTo_S1024_S_d0 h_S_) main_v10 main_c_2
  let main_c_3 : IVec S_ 32 := constantI S_ 32 0#32
  let main_v12 : IVec S16 32 := (fun x v => Host.reduce IntOp.addi x v reducesTo_S1024x16_S16_d0 h_S_) main_v5 main_c_3
  let main_c_4 : IVec S_ 32 := constantI S_ 32 128#32
  let main_v13 : IVec S16 32 := broadcastInDim S16 ![] bcast_S_S16 main_c_4
  let main_v14 : IVec S16 1 := cmpi .sle main_v12 main_v13
  let main_c_5 : IVec S_ 1 := constantI S_ 1 1#1
  let main_v15 : IVec S_ 1 := (fun x v => Host.reduce IntOp.andi x v reducesTo_S16_S_d0 h_S_) main_v14 main_c_5
  let main_v16 : IVec S16x64x16 32 := shapeCast S16x64x16 main_v5 shapeCasts_S1024x16_S16x64x16
  fn_part1 (F := F) main_v11 main_v15 main_v16
-- ==== Pre_served_ReferenceIdeal.lean ====
abbrev S65536x512 : Shape := ⟨2, ![65536, 512]⟩
abbrev S1024 : Shape := ⟨1, ![1024]⟩
abbrev S_ : Shape := ⟨0, ![]⟩
abbrev S1024x1 : Shape := ⟨2, ![1024, 1]⟩
abbrev S1024x16 : Shape := ⟨2, ![1024, 16]⟩
abbrev S16 : Shape := ⟨1, ![16]⟩
abbrev S16x64x16 : Shape := ⟨3, ![16, 64, 16]⟩
abbrev S16x16 : Shape := ⟨2, ![16, 16]⟩

class Facts : Prop where
  bcast_S_S1024 : S_.BroadcastsInDim S1024 (![] : Fin 0 → Fin S1024.rank)
  shapeCasts_S1024_S1024x1 : S1024.ShapeCasts S1024x1
  bcast_S1024x1_S1024x16_0_1 : S1024x1.BroadcastsInDim S1024x16 (![0, 1] : Fin 2 → Fin S1024x16.rank)
  natLt_1_32 : 1 < 32
  reducesTo_S1024_S_d0 : S1024.ReducesTo [0] S_
  h_S_ : 0 < S_.numel
  reducesTo_S1024x16_S16_d0 : S1024x16.ReducesTo [0] S16
  bcast_S_S16 : S_.BroadcastsInDim S16 (![] : Fin 0 → Fin S16.rank)
  reducesTo_S16_S_d0 : S16.ReducesTo [0] S_
  shapeCasts_S1024x16_S16x64x16 : S1024x16.ShapeCasts S16x64x16
  reducesTo_S16x64x16_S16x16_d1 : S16x64x16.ReducesTo [1] S16x16
  bcast_S_S16x16 : S_.BroadcastsInDim S16x16 (![] : Fin 0 → Fin S16x16.rank)
  reducesTo_S16x16_S_d0_1 : S16x16.ReducesTo [0, 1] S_

variable [Facts]

def fn_where {F : FTy → Type} [FloatOps F] (arg0 : IVec S1024 1) (arg1 : IVec S1024 32) (arg2 : IVec S1024 32) : IVec S1024 32 :=
  let v0 : IVec S1024 32 := select arg0 arg1 arg2
  v0

def fn_floor_divide {F : FTy → Type} [FloatOps F] (arg0 : IVec S1024 32) (arg1 : IVec S_ 32) : IVec S1024 32 :=
  let v0 : IVec S_ 32 := id arg1
  let v1 : IVec S1024 32 := broadcastInDim S1024 ![] bcast_S_S1024 v0
  let v2 : IVec S1024 32 := Host.divsi arg0 v1
  let v3 : IVec S1024 32 := signi arg0
  let v4 : IVec S_ 32 := signi v0
  let v5 : IVec S1024 32 := broadcastInDim S1024 ![] bcast_S_S1024 v4
  let v6 : IVec S1024 1 := cmpi .ne v3 v5
  let v7 : IVec S1024 32 := broadcastInDim S1024 ![] bcast_S_S1024 v0
  let v8 : IVec S1024 32 := Host.remsi arg0 v7
  let c : IVec S_ 32 := constantI S_ 32 0#32
  let v9 : IVec S1024 32 := broadcastInDim S1024 ![] bcast_S_S1024 c
  let v10 : IVec S1024 1 := cmpi .ne v8 v9
  let v11 : IVec S1024 1 := andi v6 v10
  let c_0 : IVec S_ 32 := constantI S_ 32 1#32
  let v12 : IVec S1024 32 := broadcastInDim S1024 ![] bcast_S_S1024 c_0
  let v13 : IVec S1024 32 := subi v2 v12
  let v14 : IVec S1024 32 := fn_where (F := F) v11 v13 v2
  v14

def fn_part1 {F : FTy → Type} [FloatOps F] (main_v11 : IVec S_ 1) (main_v15 : IVec S_ 1) (main_v16 : IVec S16x64x16 32) : IVec S_ 1 :=
  let main_c_6 : IVec S_ 32 := constantI S_ 32 0#32
  let main_v17 : IVec S16x16 32 := (fun x v => Host.reduce IntOp.addi x v reducesTo_S16x64x16_S16x16_d1 h_S_) main_v16 main_c_6
  let main_c_7 : IVec S_ 32 := constantI S_ 32 16#32
  let main_v18 : IVec S16x16 32 := broadcastInDim S16x16 ![] bcast_S_S16x16 main_c_7
  let main_v19 : IVec S16x16 1 := cmpi .sle main_v17 main_v18
  let main_c_8 : IVec S_ 1 := constantI S_ 1 1#1
  let main_v20 : IVec S_ 1 := (fun x v => Host.reduce IntOp.andi x v reducesTo_S16x16_S_d0_1 h_S_) main_v19 main_c_8
  let main_v21 : IVec S_ 1 := andi main_v15 main_v20
  let main_v22 : IVec S_ 1 := andi main_v11 main_v21
  main_v22

def fn {F : FTy → Type} [FloatOps F] (main_arg0 : FVec F S65536x512 .bf16) (main_arg1 : IVec S1024 32) : IVec S_ 1 :=
  let main_c : IVec S_ 32 := constantI S_ 32 4096#32
  let main_v0 : IVec S1024 32 := fn_floor_divide (F := F) main_arg1 main_c
  let main_v1 : IVec S1024x1 32 := shapeCast S1024x1 main_v0 shapeCasts_S1024_S1024x1
  let main_v2 : IVec S1024x16 32 := iotaInDim S1024x16 32 1
  let main_v3 : IVec S1024x16 32 := broadcastInDim S1024x16 ![0, 1] bcast_S1024x1_S1024x16_0_1 main_v1
  let main_v4 : IVec S1024x16 1 := cmpi .eq main_v3 main_v2
  let main_v5 : IVec S1024x16 32 := (extui 32 · natLt_1_32) main_v4
  let main_c_0 : IVec S_ 32 := constantI S_ 32 0#32
  let main_v6 : IVec S1024 32 := broadcastInDim S1024 ![] bcast_S_S1024 main_c_0
  let main_v7 : IVec S1024 1 := cmpi .sge main_arg1 main_v6
  let main_c_1 : IVec S_ 32 := constantI S_ 32 65536#32
  let main_v8 : IVec S1024 32 := broadcastInDim S1024 ![] bcast_S_S1024 main_c_1
  let main_v9 : IVec S1024 1 := cmpi .slt main_arg1 main_v8
  let main_v10 : IVec S1024 1 := andi main_v7 main_v9
  let main_c_2 : IVec S_ 1 := constantI S_ 1 1#1
  let main_v11 : IVec S_ 1 := (fun x v => Host.reduce IntOp.andi x v reducesTo_S1024_S_d0 h_S_) main_v10 main_c_2
  let main_c_3 : IVec S_ 32 := constantI S_ 32 0#32
  let main_v12 : IVec S16 32 := (fun x v => Host.reduce IntOp.addi x v reducesTo_S1024x16_S16_d0 h_S_) main_v5 main_c_3
  let main_c_4 : IVec S_ 32 := constantI S_ 32 128#32
  let main_v13 : IVec S16 32 := broadcastInDim S16 ![] bcast_S_S16 main_c_4
  let main_v14 : IVec S16 1 := cmpi .sle main_v12 main_v13
  let main_c_5 : IVec S_ 1 := constantI S_ 1 1#1
  let main_v15 : IVec S_ 1 := (fun x v => Host.reduce IntOp.andi x v reducesTo_S16_S_d0 h_S_) main_v14 main_c_5
  let main_v16 : IVec S16x64x16 32 := shapeCast S16x64x16 main_v5 shapeCasts_S1024x16_S16x64x16
  fn_part1 (F := F) main_v11 main_v15 main_v16
-- ==== Kernel.lean ====
abbrev S4096x512 : Shape := ⟨2, ![4096, 512]⟩
abbrev S1024 : Shape := ⟨1, ![1024]⟩
abbrev S1024x512 : Shape := ⟨2, ![1024, 512]⟩
abbrev S256x512 : Shape := ⟨2, ![256, 512]⟩
abbrev S16x16x512 : Shape := ⟨3, ![16, 16, 512]⟩
abbrev S16 : Shape := ⟨1, ![16]⟩
abbrev S_ : Shape := ⟨0, ![]⟩
abbrev S1x1024 : Shape := ⟨2, ![1, 1024]⟩
abbrev S1024x1024 : Shape := ⟨2, ![1024, 1024]⟩
abbrev S128x1024 : Shape := ⟨2, ![128, 1024]⟩
abbrev S128 : Shape := ⟨1, ![128]⟩
abbrev S128x1 : Shape := ⟨2, ![128, 1]⟩
abbrev S128x4096 : Shape := ⟨2, ![128, 4096]⟩
abbrev S128x512 : Shape := ⟨2, ![128, 512]⟩
abbrev S128x16 : Shape := ⟨2, ![128, 16]⟩
abbrev S128x128 : Shape := ⟨2, ![128, 128]⟩
abbrev S128x256 : Shape := ⟨2, ![128, 256]⟩
abbrev S1 : Shape := ⟨1, ![1]⟩
abbrev S1x16x512 : Shape := ⟨3, ![1, 16, 512]⟩
abbrev S16x512 : Shape := ⟨2, ![16, 512]⟩
abbrev S64 : Shape := ⟨1, ![64]⟩
abbrev S64x1 : Shape := ⟨2, ![64, 1]⟩
abbrev S64x16 : Shape := ⟨2, ![64, 16]⟩
abbrev S64x64 : Shape := ⟨2, ![64, 64]⟩
abbrev S64x256 : Shape := ⟨2, ![64, 256]⟩
abbrev S64x512 : Shape := ⟨2, ![64, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S1024, .i32⟩
  | .hbm, ⟨2, _⟩ => ⟨S1024x512, .bf16⟩
  | .local _ .vmem, ⟨0, _⟩ => ⟨S4096x512, .bf16⟩
  | .local _ .vmem, ⟨1, _⟩ => ⟨S1024, .i32⟩
  | .local _ .vmem, ⟨2, _⟩ => ⟨S1024x512, .bf16⟩
  | .local _ .vmem, ⟨3, _⟩ => ⟨S256x512, .bf16⟩
  | .local _ .vmem, ⟨4, _⟩ => ⟨S16x16x512, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_23 : BitVec 32 := 1#32
  let v124 : BitVec 32 := Scalar.addi v2 c1_i32_23
  let c16_i32_24 : BitVec 32 := 16#32
  let v125 : BitVec 32 := Scalar.remsi v124 c16_i32_24
  let c1_i32_26 : BitVec 32 := 1#32
  let v126 : BitVec 32 := Scalar.muli v125 c1_i32_26
  let v127 : BitVec 32 := Scalar.addi c0_i32_27 v126
  v127.toNat
def k0_dev2 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v128 : BitVec 32 := Scalar.addi v2 c2_i32
  let c16_i32_28 : BitVec 32 := 16#32
  let v129 : BitVec 32 := Scalar.remsi v128 c16_i32_28
  let c1_i32_30 : BitVec 32 := 1#32
  let v130 : BitVec 32 := Scalar.muli v129 c1_i32_30
  let v131 : BitVec 32 := Scalar.addi c0_i32_31 v130
  v131.toNat
def k0_dev3 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v132 : BitVec 32 := Scalar.addi v2 c3_i32
  let c16_i32_32 : BitVec 32 := 16#32
  let v133 : BitVec 32 := Scalar.remsi v132 c16_i32_32
  let c1_i32_34 : BitVec 32 := 1#32
  let v134 : BitVec 32 := Scalar.muli v133 c1_i32_34
  let v135 : BitVec 32 := Scalar.addi c0_i32_35 v134
  v135.toNat
def k0_dev4 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v136 : BitVec 32 := Scalar.addi v2 c4_i32
  let c16_i32_36 : BitVec 32 := 16#32
  let v137 : BitVec 32 := Scalar.remsi v136 c16_i32_36
  let c1_i32_38 : BitVec 32 := 1#32
  let v138 : BitVec 32 := Scalar.muli v137 c1_i32_38
  let v139 : BitVec 32 := Scalar.addi c0_i32_39 v138
  v139.toNat
def k0_dev5 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v140 : BitVec 32 := Scalar.addi v2 c5_i32
  let c16_i32_40 : BitVec 32 := 16#32
  let v141 : BitVec 32 := Scalar.remsi v140 c16_i32_40
  let c1_i32_42 : BitVec 32 := 1#32
  let v142 : BitVec 32 := Scalar.muli v141 c1_i32_42
  let v143 : BitVec 32 := Scalar.addi c0_i32_43 v142
  v143.toNat
def k0_dev6 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v144 : BitVec 32 := Scalar.addi v2 c6_i32
  let c16_i32_44 : BitVec 32 := 16#32
  let v145 : BitVec 32 := Scalar.remsi v144 c16_i32_44
  let c1_i32_46 : BitVec 32 := 1#32
  let v146 : BitVec 32 := Scalar.muli v145 c1_i32_46
  let v147 : BitVec 32 := Scalar.addi c0_i32_47 v146
  v147.toNat
def k0_dev7 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v148 : BitVec 32 := Scalar.addi v2 c7_i32
  let c16_i32_48 : BitVec 32 := 16#32
  let v149 : BitVec 32 := Scalar.remsi v148 c16_i32_48
  let c1_i32_50 : BitVec 32 := 1#32
  let v150 : BitVec 32 := Scalar.muli v149 c1_i32_50
  let v151 : BitVec 32 := Scalar.addi c0_i32_51 v150
  v151.toNat
def k0_dev8 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v152 : BitVec 32 := Scalar.addi v2 c8_i32
  let c16_i32_52 : BitVec 32 := 16#32
  let v153 : BitVec 32 := Scalar.remsi v152 c16_i32_52
  let c1_i32_54 : BitVec 32 := 1#32
  let v154 : BitVec 32 := Scalar.muli v153 c1_i32_54
  let v155 : BitVec 32 := Scalar.addi c0_i32_55 v154
  v155.toNat
def k0_dev9 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v156 : BitVec 32 := Scalar.addi v2 c9_i32
  let c16_i32_56 : BitVec 32 := 16#32
  let v157 : BitVec 32 := Scalar.remsi v156 c16_i32_56
  let c1_i32_58 : BitVec 32 := 1#32
  let v158 : BitVec 32 := Scalar.muli v157 c1_i32_58
  let v159 : BitVec 32 := Scalar.addi c0_i32_59 v158
  v159.toNat
def k0_dev10 (d0 : Dev nD) : Nat :=
  let c0_i32_63 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v160 : BitVec 32 := Scalar.addi v2 c10_i32
  let c16_i32_60 : BitVec 32 := 16#32
  let v161 : BitVec 32 := Scalar.remsi v160 c16_i32_60
  let c1_i32_62 : BitVec 32 := 1#32
  let v162 : BitVec 32 := Scalar.muli v161 c1_i32_62
  let v163 : BitVec 32 := Scalar.addi c0_i32_63 v162
  v163.toNat
def k0_dev11 (d0 : Dev nD) : Nat :=
  let c0_i32_67 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v164 : BitVec 32 := Scalar.addi v2 c11_i32
  let c16_i32_64 : BitVec 32 := 16#32
  let v165 : BitVec 32 := Scalar.remsi v164 c16_i32_64
  let c1_i32_66 : BitVec 32 := 1#32
  let v166 : BitVec 32 := Scalar.muli v165 c1_i32_66
  let v167 : BitVec 32 := Scalar.addi c0_i32_67 v166
  v167.toNat
def k0_dev12 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v168 : BitVec 32 := Scalar.addi v2 c12_i32
  let c16_i32_68 : BitVec 32 := 16#32
  let v169 : BitVec 32 := Scalar.remsi v168 c16_i32_68
  let c1_i32_70 : BitVec 32 := 1#32
  let v170 : BitVec 32 := Scalar.muli v169 c1_i32_70
  let v171 : BitVec 32 := Scalar.addi c0_i32_71 v170
  v171.toNat
def k0_dev13 (d0 : Dev nD) : Nat :=
  let c0_i32_75 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v172 : BitVec 32 := Scalar.addi v2 c13_i32
  let c16_i32_72 : BitVec 32 := 16#32
  let v173 : BitVec 32 := Scalar.remsi v172 c16_i32_72
  let c1_i32_74 : BitVec 32 := 1#32
  let v174 : BitVec 32 := Scalar.muli v173 c1_i32_74
  let v175 : BitVec 32 := Scalar.addi c0_i32_75 v174
  v175.toNat
def k0_dev14 (d0 : Dev nD) : Nat :=
  let c0_i32_79 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v176 : BitVec 32 := Scalar.addi v2 c14_i32
  let c16_i32_76 : BitVec 32 := 16#32
  let v177 : BitVec 32 := Scalar.remsi v176 c16_i32_76
  let c1_i32_78 : BitVec 32 := 1#32
  let v178 : BitVec 32 := Scalar.muli v177 c1_i32_78
  let v179 : BitVec 32 := Scalar.addi c0_i32_79 v178
  v179.toNat
def k0_dev15 (d0 : Dev nD) : Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v180 : BitVec 32 := Scalar.addi v2 c15_i32
  let c16_i32_80 : BitVec 32 := 16#32
  let v181 : BitVec 32 := Scalar.remsi v180 c16_i32_80
  let c1_i32_82 : BitVec 32 := 1#32
  let v182 : BitVec 32 := Scalar.muli v181 c1_i32_82
  let v183 : BitVec 32 := Scalar.addi c0_i32_83 v182
  v183.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_89 : BitVec 32 := 0#32
  let c0_i32_90 : BitVec 32 := 0#32
  ![v2.toNat, 0, 0]
def k0_dev16 : Nat :=
  let c0_i32_88 : BitVec 32 := 0#32
  let c0_i32_86 : BitVec 32 := 0#32
  let c1_i32_87 : BitVec 32 := 1#32
  let v184 : BitVec 32 := Scalar.muli c0_i32_86 c1_i32_87
  let v185 : BitVec 32 := Scalar.addi c0_i32_88 v184
  v185.toNat
def k0_dev17 : Nat :=
  let c0_i32_96 : BitVec 32 := 0#32
  let c1_i32_94 : BitVec 32 := 1#32
  let c1_i32_95 : BitVec 32 := 1#32
  let v191 : BitVec 32 := Scalar.muli c1_i32_94 c1_i32_95
  let v192 : BitVec 32 := Scalar.addi c0_i32_96 v191
  v192.toNat
def k0_dev18 : Nat :=
  let c0_i32_104 : BitVec 32 := 0#32
  let c2_i32_102 : BitVec 32 := 2#32
  let c1_i32_103 : BitVec 32 := 1#32
  let v198 : BitVec 32 := Scalar.muli c2_i32_102 c1_i32_103
  let v199 : BitVec 32 := Scalar.addi c0_i32_104 v198
  v199.toNat
def k0_dev19 : Nat :=
  let c0_i32_111 : BitVec 32 := 0#32
  let c3_i32_109 : BitVec 32 := 3#32
  let c1_i32_110 : BitVec 32 := 1#32
  let v205 : BitVec 32 := Scalar.muli c3_i32_109 c1_i32_110
  let v206 : BitVec 32 := Scalar.addi c0_i32_111 v205
  v206.toNat
def k0_dev20 : Nat :=
  let c0_i32_118 : BitVec 32 := 0#32
  let c4_i32_116 : BitVec 32 := 4#32
  let c1_i32_117 : BitVec 32 := 1#32
  let v212 : BitVec 32 := Scalar.muli c4_i32_116 c1_i32_117
  let v213 : BitVec 32 := Scalar.addi c0_i32_118 v212
  v213.toNat
def k0_dev21 : Nat :=
  let c0_i32_126 : BitVec 32 := 0#32
  let c5_i32_124 : BitVec 32 := 5#32
  let c1_i32_125 : BitVec 32 := 1#32
  let v219 : BitVec 32 := Scalar.muli c5_i32_124 c1_i32_125
  let v220 : BitVec 32 := Scalar.addi c0_i32_126 v219
  v220.toNat
def k0_dev22 : Nat :=
  let c0_i32_133 : BitVec 32 := 0#32
  let c6_i32_131 : BitVec 32 := 6#32
  let c1_i32_132 : BitVec 32 := 1#32
  let v226 : BitVec 32 := Scalar.muli c6_i32_131 c1_i32_132
  let v227 : BitVec 32 := Scalar.addi c0_i32_133 v226
  v227.toNat
def k0_dev23 : Nat :=
  let c0_i32_140 : BitVec 32 := 0#32
  let c7_i32_138 : BitVec 32 := 7#32
  let c1_i32_139 : BitVec 32 := 1#32
  let v233 : BitVec 32 := Scalar.muli c7_i32_138 c1_i32_139
  let v234 : BitVec 32 := Scalar.addi c0_i32_140 v233
  v234.toNat
def k0_dev24 : Nat :=
  let c0_i32_147 : BitVec 32 := 0#32
  let c8_i32_145 : BitVec 32 := 8#32
  let c1_i32_146 : BitVec 32 := 1#32
  let v240 : BitVec 32 := Scalar.muli c8_i32_145 c1_i32_146
  let v241 : BitVec 32 := Scalar.addi c0_i32_147 v240
  v241.toNat
def k0_dev25 : Nat :=
  let c0_i32_154 : BitVec 32 := 0#32
  let c9_i32_152 : BitVec 32 := 9#32
  let c1_i32_153 : BitVec 32 := 1#32
  let v247 : BitVec 32 := Scalar.muli c9_i32_152 c1_i32_153
  let v248 : BitVec 32 := Scalar.addi c0_i32_154 v247
  v248.toNat
def k0_dev26 : Nat :=
  let c0_i32_161 : BitVec 32 := 0#32
  let c10_i32_159 : BitVec 32 := 10#32
  let c1_i32_160 : BitVec 32 := 1#32
  let v254 : BitVec 32 := Scalar.muli c10_i32_159 c1_i32_160
  let v255 : BitVec 32 := Scalar.addi c0_i32_161 v254
  v255.toNat
def k0_dev27 : Nat :=
  let c0_i32_168 : BitVec 32 := 0#32
  let c11_i32_166 : BitVec 32 := 11#32
  let c1_i32_167 : BitVec 32 := 1#32
  let v261 : BitVec 32 := Scalar.muli c11_i32_166 c1_i32_167
  let v262 : BitVec 32 := Scalar.addi c0_i32_168 v261
  v262.toNat
def k0_dev28 : Nat :=
  let c0_i32_175 : BitVec 32 := 0#32
  let c12_i32_173 : BitVec 32 := 12#32
  let c1_i32_174 : BitVec 32 := 1#32
  let v268 : BitVec 32 := Scalar.muli c12_i32_173 c1_i32_174
  let v269 : BitVec 32 := Scalar.addi c0_i32_175 v268
  v269.toNat
def k0_dev29 : Nat :=
  let c0_i32_182 : BitVec 32 := 0#32
  let c13_i32_180 : BitVec 32 := 13#32
  let c1_i32_181 : BitVec 32 := 1#32
  let v275 : BitVec 32 := Scalar.muli c13_i32_180 c1_i32_181
  let v276 : BitVec 32 := Scalar.addi c0_i32_182 v275
  v276.toNat
def k0_dev30 : Nat :=
  let c0_i32_189 : BitVec 32 := 0#32
  let c14_i32_187 : BitVec 32 := 14#32
  let c1_i32_188 : BitVec 32 := 1#32
  let v282 : BitVec 32 := Scalar.muli c14_i32_187 c1_i32_188
  let v283 : BitVec 32 := Scalar.addi c0_i32_189 v282
  v283.toNat
def k0_dev31 : Nat :=
  let c0_i32_196 : BitVec 32 := 0#32
  let c15_i32_194 : BitVec 32 := 15#32
  let c1_i32_195 : BitVec 32 := 1#32
  let v289 : BitVec 32 := Scalar.muli c15_i32_194 c1_i32_195
  let v290 : BitVec 32 := Scalar.addi c0_i32_196 v289
  v290.toNat
def k0_off2 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_200 : BitVec 32 := 64#32
  let v296 : BitVec 32 := Scalar.muli v2 c64_i32_200
  let v297 : Index := Scalar.indexCast v296
  ![v297.toNat]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_344 : BitVec 32 := 64#32
  let v441 : BitVec 32 := Scalar.muli v2 c64_i32_344
  let v442 : Index := Scalar.indexCast v441
  let c0_345 : Index := 0#32
  ![v442.toNat, 0]
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_349 : BitVec 32 := 64#32
  let v447 : BitVec 32 := Scalar.muli v2 c64_i32_349
  let c0_i32_353 : BitVec 32 := 0#32
  ![v447.toNat, 0]
def k0_dev32 (d0 : Dev nD) : Nat :=
  let c0_i32_352 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_346 : BitVec 32 := 1#32
  let v444 : BitVec 32 := Scalar.addi v2 c1_i32_346
  let c16_i32_347 : BitVec 32 := 16#32
  let v445 : BitVec 32 := Scalar.remsi v444 c16_i32_347
  let c1_i32_351 : BitVec 32 := 1#32
  let v448 : BitVec 32 := Scalar.muli v445 c1_i32_351
  let v449 : BitVec 32 := Scalar.addi c0_i32_352 v448
  v449.toNat
def k0_dev33 (d0 : Dev nD) : Nat :=
  let c0_i32_361 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_355 : BitVec 32 := 2#32
  let v454 : BitVec 32 := Scalar.addi v2 c2_i32_355
  let c16_i32_356 : BitVec 32 := 16#32
  let v455 : BitVec 32 := Scalar.remsi v454 c16_i32_356
  let c1_i32_360 : BitVec 32 := 1#32
  let v458 : BitVec 32 := Scalar.muli v455 c1_i32_360
  let v459 : BitVec 32 := Scalar.addi c0_i32_361 v458
  v459.toNat
def k0_dev34 (d0 : Dev nD) : Nat :=
  let c0_i32_370 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_364 : BitVec 32 := 3#32
  let v464 : BitVec 32 := Scalar.addi v2 c3_i32_364
  let c16_i32_365 : BitVec 32 := 16#32
  let v465 : BitVec 32 := Scalar.remsi v464 c16_i32_365
  let c1_i32_369 : BitVec 32 := 1#32
  let v468 : BitVec 32 := Scalar.muli v465 c1_i32_369
  let v469 : BitVec 32 := Scalar.addi c0_i32_370 v468
  v469.toNat
def k0_dev35 (d0 : Dev nD) : Nat :=
  let c0_i32_379 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_373 : BitVec 32 := 4#32
  let v474 : BitVec 32 := Scalar.addi v2 c4_i32_373
  let c16_i32_374 : BitVec 32 := 16#32
  let v475 : BitVec 32 := Scalar.remsi v474 c16_i32_374
  let c1_i32_378 : BitVec 32 := 1#32
  let v478 : BitVec 32 := Scalar.muli v475 c1_i32_378
  let v479 : BitVec 32 := Scalar.addi c0_i32_379 v478
  v479.toNat
def k0_dev36 (d0 : Dev nD) : Nat :=
  let c0_i32_388 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_382 : BitVec 32 := 5#32
  let v484 : BitVec 32 := Scalar.addi v2 c5_i32_382
  let c16_i32_383 : BitVec 32 := 16#32
  let v485 : BitVec 32 := Scalar.remsi v484 c16_i32_383
  let c1_i32_387 : BitVec 32 := 1#32
  let v488 : BitVec 32 := Scalar.muli v485 c1_i32_387
  let v489 : BitVec 32 := Scalar.addi c0_i32_388 v488
  v489.toNat
def k0_dev37 (d0 : Dev nD) : Nat :=
  let c0_i32_397 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_391 : BitVec 32 := 6#32
  let v494 : BitVec 32 := Scalar.addi v2 c6_i32_391
  let c16_i32_392 : BitVec 32 := 16#32
  let v495 : BitVec 32 := Scalar.remsi v494 c16_i32_392
  let c1_i32_396 : BitVec 32 := 1#32
  let v498 : BitVec 32 := Scalar.muli v495 c1_i32_396
  let v499 : BitVec 32 := Scalar.addi c0_i32_397 v498
  v499.toNat
def k0_dev38 (d0 : Dev nD) : Nat :=
  let c0_i32_406 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_400 : BitVec 32 := 7#32
  let v504 : BitVec 32 := Scalar.addi v2 c7_i32_400
  let c16_i32_401 : BitVec 32 := 16#32
  let v505 : BitVec 32 := Scalar.remsi v504 c16_i32_401
  let c1_i32_405 : BitVec 32 := 1#32
  let v508 : BitVec 32 := Scalar.muli v505 c1_i32_405
  let v509 : BitVec 32 := Scalar.addi c0_i32_406 v508
  v509.toNat
def k0_dev39 (d0 : Dev nD) : Nat :=
  let c0_i32_415 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_409 : BitVec 32 := 8#32
  let v514 : BitVec 32 := Scalar.addi v2 c8_i32_409
  let c16_i32_410 : BitVec 32 := 16#32
  let v515 : BitVec 32 := Scalar.remsi v514 c16_i32_410
  let c1_i32_414 : BitVec 32 := 1#32
  let v518 : BitVec 32 := Scalar.muli v515 c1_i32_414
  let v519 : BitVec 32 := Scalar.addi c0_i32_415 v518
  v519.toNat
def k0_dev40 (d0 : Dev nD) : Nat :=
  let c0_i32_424 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_418 : BitVec 32 := 9#32
  let v524 : BitVec 32 := Scalar.addi v2 c9_i32_418
  let c16_i32_419 : BitVec 32 := 16#32
  let v525 : BitVec 32 := Scalar.remsi v524 c16_i32_419
  let c1_i32_423 : BitVec 32 := 1#32
  let v528 : BitVec 32 := Scalar.muli v525 c1_i32_423
  let v529 : BitVec 32 := Scalar.addi c0_i32_424 v528
  v529.toNat
def k0_dev41 (d0 : Dev nD) : Nat :=
  let c0_i32_433 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_427 : BitVec 32 := 10#32
  let v534 : BitVec 32 := Scalar.addi v2 c10_i32_427
  let c16_i32_428 : BitVec 32 := 16#32
  let v535 : BitVec 32 := Scalar.remsi v534 c16_i32_428
  let c1_i32_432 : BitVec 32 := 1#32
  let v538 : BitVec 32 := Scalar.muli v535 c1_i32_432
  let v539 : BitVec 32 := Scalar.addi c0_i32_433 v538
  v539.toNat
def k0_dev42 (d0 : Dev nD) : Nat :=
  let c0_i32_442 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_436 : BitVec 32 := 11#32
  let v544 : BitVec 32 := Scalar.addi v2 c11_i32_436
  let c16_i32_437 : BitVec 32 := 16#32
  let v545 : BitVec 32 := Scalar.remsi v544 c16_i32_437
  let c1_i32_441 : BitVec 32 := 1#32
  let v548 : BitVec 32 := Scalar.muli v545 c1_i32_441
  let v549 : BitVec 32 := Scalar.addi c0_i32_442 v548
  v549.toNat
def k0_dev43 (d0 : Dev nD) : Nat :=
  let c0_i32_451 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_445 : BitVec 32 := 12#32
  let v554 : BitVec 32 := Scalar.addi v2 c12_i32_445
  let c16_i32_446 : BitVec 32 := 16#32
  let v555 : BitVec 32 := Scalar.remsi v554 c16_i32_446
  let c1_i32_450 : BitVec 32 := 1#32
  let v558 : BitVec 32 := Scalar.muli v555 c1_i32_450
  let v559 : BitVec 32 := Scalar.addi c0_i32_451 v558
  v559.toNat
def k0_dev44 (d0 : Dev nD) : Nat :=
  let c0_i32_460 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_454 : BitVec 32 := 13#32
  let v564 : BitVec 32 := Scalar.addi v2 c13_i32_454
  let c16_i32_455 : BitVec 32 := 16#32
  let v565 : BitVec 32 := Scalar.remsi v564 c16_i32_455
  let c1_i32_459 : BitVec 32 := 1#32
  let v568 : BitVec 32 := Scalar.muli v565 c1_i32_459
  let v569 : BitVec 32 := Scalar.addi c0_i32_460 v568
  v569.toNat
def k0_dev45 (d0 : Dev nD) : Nat :=
  let c0_i32_469 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_463 : BitVec 32 := 14#32
  let v574 : BitVec 32 := Scalar.addi v2 c14_i32_463
  let c16_i32_464 : BitVec 32 := 16#32
  let v575 : BitVec 32 := Scalar.remsi v574 c16_i32_464
  let c1_i32_468 : BitVec 32 := 1#32
  let v578 : BitVec 32 := Scalar.muli v575 c1_i32_468
  let v579 : BitVec 32 := Scalar.addi c0_i32_469 v578
  v579.toNat
def k0_dev46 (d0 : Dev nD) : Nat :=
  let c0_i32_478 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_472 : BitVec 32 := 15#32
  let v584 : BitVec 32 := Scalar.addi v2 c15_i32_472
  let c16_i32_473 : BitVec 32 := 16#32
  let v585 : BitVec 32 := Scalar.remsi v584 c16_i32_473
  let c1_i32_477 : BitVec 32 := 1#32
  let v588 : BitVec 32 := Scalar.muli v585 c1_i32_477
  let v589 : BitVec 32 := Scalar.addi c0_i32_478 v588
  v589.toNat
abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S65536x512 : Shape := ⟨2, ![65536, 512]⟩
abbrev S1024 : Shape := ⟨1, ![1024]⟩
abbrev S_ : Shape := ⟨0, ![]⟩
abbrev S1024x1 : Shape := ⟨2, ![1024, 1]⟩
abbrev S1024x512 : Shape := ⟨2, ![1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S65536x512, .bf16⟩
  | .hbm, ⟨1, _⟩ => ⟨S1024, .i32⟩
  | .hbm, ⟨2, _⟩ => ⟨S_, .i32⟩
  | .hbm, ⟨3, _⟩ => ⟨S1024, .i32⟩
  | .hbm, ⟨4, _⟩ => ⟨S1024, .i1⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S1024, .i32⟩
  | .hbm, ⟨9, _⟩ => ⟨S1024x1, .i32⟩
  | .hbm, ⟨10, _⟩ => ⟨S1024x512, .bf16⟩
  | _, _ => ⟨S65536x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Cells.lean ====
/-
# The semaphore cells of the lookup, its memory regions, and what each cell's payers hand over

Every device has one entry-handshake cell, one receive cell and sixteen send cells for the first exchange, and one
receive cell and sixteen send cells for the second (the last of those is never used). All traffic happens in one
round per cell; the payers of a cell are named by devices.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Pointwise.Index
public import Idealize.SL.BI.BigOpNat

@[expose] public section

noncomputable section

namespace Cert.Lookup

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds beside this protocol's, whose payers are devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The launch state: memory `m`, every counter zero, generator registers `ρ`. -/
def s₀ : MemSt nD τ sig (Elt F) := ⟨m, fun _ => 0, ρ⟩

/-! ## Devices around the mesh -/

set_option backward.proofsInPublic true in
/-- The device `k` places after `c`, around. -/
def peer (c : Dev nD) (k : ℕ) : Dev nD := ⟨(c.val + k) % 16, Nat.mod_lt _ (by decide)⟩
set_option backward.proofsInPublic true in
/-- The device numbered `t`, around. -/
def dv (t : ℕ) : Dev nD := ⟨t % 16, Nat.mod_lt _ (by decide)⟩

theorem dv_val {t : ℕ} (h : t < 16) : (dv t).val = t := Nat.mod_eq_of_lt h

/-! ## Memory regions -/

abbrev tM : Memref sig .tc .vmem S4096x512 .bf16 := Memref.whole cc0_stg0_0
abbrev iM : Memref sig .tc .vmem S1024 .i32 := Memref.whole cc0_stg1_0
abbrev oM : Memref sig .tc .vmem S1024x512 .bf16 := Memref.whole cc0_stg2_0
abbrev pM : Memref sig .tc .vmem S256x512 .bf16 := Memref.whole cc0_scratch0
abbrev lM : Memref sig .tc .vmem S16x16x512 .bf16 := Memref.whole cc0_scratch1

theorem inb_row {t : ℕ} (h : t < 16) : ∀ a, (![16 * t, 0] : Fin 2 → Nat) a + S16x512.size a ≤ S256x512.size a := by
  intro a; fin_cases a
  · show 16 * t + 16 ≤ 256; omega
  · show 0 + 512 ≤ 512; omega

/-- The sixteen packed rows meant for device `t`. -/
abbrev rowM (t : ℕ) (h : t < 16) : Memref sig .tc .vmem S16x512 .bf16 :=
  pM.slice (Rect.unit (s := S256x512) ![16 * t, 0] S16x512.size (inb_row h)) (fun _ => rfl)
/-- The landing slot that device `c` fills (on whichever device). -/
abbrev slotM (c : Dev nD) : Memref sig .tc .vmem S16x512 .bf16 :=
  (lM.slice (Rect.unit (s := S16x16x512) (k0_off1 c) S1x16x512.size (k0_off1_inb c)) (fun _ => rfl)).squeeze S16x512 squeezes_S1x16x512_S16x512
/-- The sixty-four result rows that device `c` computes (on whichever device). -/
abbrev chunkM (c : Dev nD) : Memref sig .tc .vmem S64x512 .bf16 :=
  oM.slice (Rect.unit (s := S1024x512) (k0_off4 c) S64x512.size (k0_off4_inb c)) (fun _ => rfl)

/-- The element sets of those regions, as sets of the whole buffers' indices. -/
def rowSet (t : ℕ) : Finset S256x512.Idx := Finset.univ.filter fun i => (i 0 : ℕ) / 16 = t
def slotSet (c : Dev nD) : Finset S16x16x512.Idx := Finset.univ.filter fun i => (i 0 : ℕ) = c.val
def chunkSet (c : Dev nD) : Finset S1024x512.Idx := Finset.univ.filter fun i => (i 0 : ℕ) / 64 = c.val

theorem rowM_set (t : ℕ) (h : t < 16) : (rowM t h).view.set = rowSet t := by
  show ((View.whole cc0_scratch0).slice _).set = _
  rw [View.set_slice_whole]
  ext i
  rw [Rect.mem_set_unit]
  simp only [rowSet, Finset.mem_filter, Finset.mem_univ, true_and]
  constructor
  · intro hh
    have := hh 0
    simp only [Matrix.cons_val_zero] at this
    have h2 : (S16x512.size 0) = 16 := rfl
    omega
  · intro hh a
    fin_cases a
    · show 16 * t ≤ (i 0 : ℕ) ∧ (i 0 : ℕ) < 16 * t + 16
      omega
    · show 0 ≤ (i 1 : ℕ) ∧ (i 1 : ℕ) < 0 + 512
      have : (i 1 : ℕ) < 512 := (i 1).isLt
      omega

theorem slotM_set (c : Dev nD) : (slotM c).view.set = slotSet c := by
  show (((View.whole cc0_scratch1).slice (Rect.unit (s := S16x16x512) (k0_off1 c) S1x16x512.size (k0_off1_inb c))).reshape S16x512 _).set = _
  rw [View.set_reshape, View.set_slice_whole]
  ext i
  rw [Rect.mem_set_unit]
  simp only [slotSet, Finset.mem_filter, Finset.mem_univ, true_and]
  rw [k0_off1_eq]
  constructor
  · intro hh
    have := hh 0
    simp only [Matrix.cons_val_zero] at this
    have h2 : (S1x16x512.size 0) = 1 := rfl
    omega
  · intro hh a
    fin_cases a
    · show c.val ≤ (i 0 : ℕ) ∧ (i 0 : ℕ) < c.val + 1
      omega
    · show 0 ≤ (i 1 : ℕ) ∧ (i 1 : ℕ) < 0 + 16
      have : (i 1 : ℕ) < 16 := (i 1).isLt
      omega
    · show 0 ≤ (i 2 : ℕ) ∧ (i 2 : ℕ) < 0 + 512
      have : (i 2 : ℕ) < 512 := (i 2).isLt
      omega

theorem chunkM_set (c : Dev nD) : (chunkM c).view.set = chunkSet c := by
  show ((View.whole cc0_stg2_0).slice _).set = _
  rw [View.set_slice_whole]
  ext i
  rw [Rect.mem_set_unit]
  simp only [chunkSet, Finset.mem_filter, Finset.mem_univ, true_and]
  rw [k0_off4_eq]
  constructor
  · intro hh
    have := hh 0
    simp only [Matrix.cons_val_zero] at this
    have h2 : (S64x512.size 0) = 64 := rfl
    omega
  · intro hh a
    fin_cases a
    · show 64 * c.val ≤ (i 0 : ℕ) ∧ (i 0 : ℕ) < 64 * c.val + 64
      omega
    · show 0 ≤ (i 1 : ℕ) ∧ (i 1 : ℕ) < 0 + 512
      have : (i 1 : ℕ) < 512 := (i 1).isLt
      omega

/-! ## Semaphores and cells -/

abbrev barS : Sem sig := (SemArray.scalar (sig.barrier 0 rfl) : Sems sig S_).sem

set_option backward.proofsInPublic true in
/-- The DMA semaphores past the three staging ones: 0–15 the first exchange's sends, 16 its receive, 17–32 the second
    exchange's sends, 33 its receive. -/
def qS (j : Fin 34) : DmaSem sig := (⟨3 + j.val, by show 3 + j.val < 37; omega⟩ : Fin 37)

theorem qS_val (j : Fin 34) : (qS j : Fin 37).val = 3 + j.val := rfl

abbrev barCell (c : Dev nD) : GSem nD τ sig := ((c : Thread nD τ), .reg barS)
abbrev dmaCell (c : Dev nD) (j : Fin 34) : GSem nD τ sig := ((c : Thread nD τ), .dma (qS j))
/-- The cell by its number, `dmaCell` where the number is one. -/
abbrev dCell (c : Dev nD) (j : ℕ) : GSem nD τ sig := dmaCell c ⟨j % 34, Nat.mod_lt _ (by decide)⟩
abbrev r1Cell (c : Dev nD) : GSem nD τ sig := dmaCell c 16
abbrev r2Cell (c : Dev nD) : GSem nD τ sig := dmaCell c 33

/-- The semaphores the launch counts as the kernel's own, and all of the protocol's, the handshake first. -/
abbrev osem (j : Fin 34) : SemLoc sig := .dma (qS j)
abbrev csem : Option (Fin 34) → SemLoc sig := fun | none => .reg barS | some j => .dma (qS j)
abbrev kcell (ck : Dev nD × Option (Fin 34)) : GSem nD τ sig := ((ck.1 : Thread nD τ), csem ck.2)

/-- What one packet of the first exchange credits, and one chunk of the second. -/
abbrev N1 : ℕ := (slotM 0).view.dmaCredit
abbrev N2 : ℕ := (chunkM 0).view.dmaCredit
theorem N1_pos : 0 < N1 := View.dmaCredit_pos _ (by decide)
theorem N2_pos : 0 < N2 := View.dmaCredit_pos _ (by decide)

/-! ## Contents -/

/-- Device `c`'s share of the table, and the indices it was given, as staged. -/
def tb (c : Dev nD) : (cc0_stg0_0 : Ref sig .tc).ty.Contents (Elt F) :=
  (win0_0.blk (0 : Fin 1)).view.read (Elt F) ((s₀ m ρ).mem ((c : Thread nD τ).loc main_arg0))
def ixs (c : Dev nD) : (cc0_stg1_0 : Ref sig .tc).ty.Contents (Elt F) :=
  (win0_1.blk (0 : Fin 1)).view.read (Elt F) ((s₀ m ρ).mem ((c : Thread nD τ).loc main_arg1))

/-- The packets device `c` packs, sixteen rows per destination. -/
def packed (c : Dev nD) : (cc0_scratch0 : Ref sig .tc).ty.Contents (Elt F) :=
  k0_pay12 (k0_pay7 (k0_pay6 (F := F) c (ixs m ρ c))) (k0_pay8 (k0_pay1 (tb m ρ c)) (k0_pay4 (F := F) c (ixs m ρ c)))
    (k0_pay9 (k0_pay5 (F := F) c (ixs m ρ c))) (k0_pay10 (F := F) (k0_pay5 (F := F) c (ixs m ρ c)) (k0_pay6 (F := F) c (ixs m ρ c))) k0_pay11

set_option backward.proofsInPublic true in
/-- What has landed on device `t` once every device's packet is in: slot `s` holds the packet `s` packed for `t`. -/
def landed (t : Dev nD) : (cc0_scratch1 : Ref sig .tc).ty.Contents (Elt F) := fun i =>
  packed m ρ (i 0 : Fin 16) (ix2 (n0 := 256) (n1 := 512) (⟨16 * t.val + (i 1 : Fin 16).val, by
    have h1 : t.val < 16 := t.isLt
    have h2 : ((i 1 : Fin 16).val) < 16 := (i 1 : Fin 16).isLt
    omega⟩ : Fin 256) (i 2 : Fin 512))

/-- The indices device `c` answers for: the sixty-four at its place. -/
def ask (c : Dev nD) : Vec F S64 .i32 :=
  (iM : Memref sig .tc .vmem S1024 .i32).view.readAt (Elt F) (Rect.unit (s := S1024) (k0_off2 c) S64.size (k0_off2_inb c)).toLoadRect (ixs m ρ c)

/-- The rows device `c` computes out of what landed on it. -/
def answer (c : Dev nD) : FVec F S64x512 .bf16 :=
  k0_pay18 (k0_pay17 (F := F) (k0_pay14 (F := F) (ask m ρ c)) (k0_pay15 (F := F) (ask m ρ c)) k0_pay16) (landed m ρ c)

set_option backward.proofsInPublic true in
/-- The whole result: row `n` is row `n % 64` of device `n / 64`'s answer. -/
def result : (cc0_stg2_0 : Ref sig .tc).ty.Contents (Elt F) := fun i =>
  answer m ρ (⟨(i 0 : Fin 1024).val / 64, by
    have h : (i 0 : Fin 1024).val < 1024 := (i 0 : Fin 1024).isLt
    show (i 0 : Fin 1024).val / 64 < 16; omega⟩ : Fin 16)
    (ix2 (n0 := 64) (n1 := 512) (⟨(i 0 : Fin 1024).val % 64, Nat.mod_lt _ (by decide)⟩ : Fin 64) (i 1 : Fin 512))

/-! ## What is handed over -/

/-- Shares of a chunk read by fifteen transfers at once: transfer `j` reads at `piece j`, what is left after `j` of them is
    `left j`. -/
def leftover : ℕ → PosShare TreeShare
  | 0 => fullShare
  | j + 1 => (leftover j).right
def piece (j : ℕ) : PosShare TreeShare := (leftover j).left

def slotPts (d s : Dev nD) (f : (cc0_scratch1 : Ref sig .tc).ty.Contents (Elt F)) : sProp 𝕄 :=
  ((d : Thread nD τ).loc cc0_scratch1) ↦[slotSet s]{fullShare} f
def rowPts (c : Dev nD) (t : ℕ) : sProp 𝕄 :=
  ((c : Thread nD τ).loc cc0_scratch0) ↦[rowSet t]{fullShare} packed m ρ c
def chunkPts (d s : Dev nD) (q : PosShare TreeShare) (f : (cc0_stg2_0 : Ref sig .tc).ty.Contents (Elt F)) : sProp 𝕄 :=
  ((d : Thread nD τ).loc cc0_stg2_0) ↦[chunkSet s]{q} f

/-- What device `d` lends device `c` before any traffic: `c`'s landing slot and `c`'s result rows on `d`. -/
def lend (c d : Dev nD) : sProp 𝕄 := iprop((∃ f, slotPts (F := F) d c f) ∗ (∃ f, chunkPts (F := F) d c fullShare f))

def dutiesOf (c : Dev nD) : SemLoc sig → Finset (Dev nD)
  | .reg _ => Finset.univ.erase c
  | .dma q => if (q : Fin 37).val = 19 then Finset.univ else if (q : Fin 37).val = 36 then Finset.univ.erase c
      else if 3 ≤ (q : Fin 37).val ∧ (q : Fin 37).val < 35 then {(0 : Fin 16)} else ∅
def amountOfSem : SemLoc sig → ℕ
  | .reg _ => 1
  | .dma q => if (q : Fin 37).val < 20 then N1 else N2
def payOf (c : Dev nD) : SemLoc sig → Dev nD → sProp 𝕄
  | .reg _, d => lend (F := F) c d
  | .dma q, d => if (q : Fin 37).val < 19 then rowPts m ρ c ((q : Fin 37).val - 3)
      else if (q : Fin 37).val = 19 then slotPts c d (landed m ρ c)
      else if (q : Fin 37).val < 36 then chunkPts c c (piece ((q : Fin 37).val - 20)) (result m ρ)
      else chunkPts c d fullShare (result m ρ)

instance payOf_storable (c : Dev nD) (l : SemLoc sig) (d : Dev nD) : BI.Storable (upEmb : UEmb _ 𝕄) (payOf m ρ c l d) := by
  cases l <;> unfold payOf lend slotPts rowPts chunkPts <;> (repeat' split) <;> infer_instance

/-- The schedule: everything happens in round 0. -/
def rd : Rounds.Schedule (GSem nD τ sig) (Dev nD) 𝕄 where
  duties g r := if r = 0 ∧ g.1.2 = .tc then dutiesOf g.1.1 g.2 else ∅
  unitless _ := False
  amount g _ _ := amountOfSem g.2
  payload g _ d := payOf m ρ g.1.1 g.2 d
  amount_pos g _ _ _ := by
    cases h : g.2 with
    | reg _ => exact Nat.one_pos
    | dma q => unfold amountOfSem; dsimp only; split; exacts [N1_pos, N2_pos]

instance rd_storable (g : GSem nD τ sig) (r : ℕ) (d : Dev nD) : BI.Storable (upEmb : UEmb _ 𝕄) ((rd (F := F) m ρ).payload g r d) :=
  payOf_storable m ρ _ _ _

section Sched
variable (c : Dev nD)

theorem duties_later (g : GSem nD τ sig) : ∀ r, 1 ≤ r → (rd (F := F) m ρ).duties g r = ∅ :=
  fun r hr => if_neg fun h => by omega
theorem duties_zero (sm : SemLoc sig) : (rd (F := F) m ρ).duties ((c : Thread nD τ), sm) 0 = dutiesOf c sm := by
  unfold rd; dsimp only; rw [if_pos ⟨rfl, rfl⟩]
theorem duties_bar : (rd (F := F) m ρ).duties (barCell c) 0 = Finset.univ.erase c := duties_zero m ρ c _
theorem duties_r1 : (rd (F := F) m ρ).duties (r1Cell c) 0 = Finset.univ := by
  rw [duties_zero]; unfold dutiesOf; dsimp only; rw [qS_val, if_pos (by decide)]
theorem duties_r2 : (rd (F := F) m ρ).duties (r2Cell c) 0 = Finset.univ.erase c := by
  rw [duties_zero]; unfold dutiesOf; dsimp only; rw [qS_val, if_neg (by decide), if_pos (by decide)]
theorem duties_s (j : Fin 34) (h : j.val ≠ 16) (h' : j.val < 32) : (rd (F := F) m ρ).duties (dmaCell c j) 0 = {(0 : Fin 16)} := by
  rw [duties_zero]; unfold dutiesOf; dsimp only
  rw [qS_val, if_neg (by omega), if_neg (by omega), if_pos (by omega)]
theorem duties_idle : (rd (F := F) m ρ).duties (dmaCell c 32) 0 = ∅ := by
  rw [duties_zero]; unfold dutiesOf; dsimp only; rw [qS_val, if_neg (by decide), if_neg (by decide), if_neg (by decide)]

theorem amount_bar (d : Dev nD) : (rd (F := F) m ρ).amount (barCell c) 0 d = 1 := rfl
theorem amount_lo (j : Fin 34) (h : j.val < 17) (d : Dev nD) : (rd (F := F) m ρ).amount (dmaCell c j) 0 d = N1 := by
  show amountOfSem (.dma (qS j)) = _
  unfold amountOfSem; dsimp only; rw [qS_val, if_pos (by omega)]
theorem amount_hi (j : Fin 34) (h : 17 ≤ j.val) (d : Dev nD) : (rd (F := F) m ρ).amount (dmaCell c j) 0 d = N2 := by
  show amountOfSem (.dma (qS j)) = _
  unfold amountOfSem; dsimp only; rw [qS_val, if_neg (by omega)]

theorem payload_bar (d : Dev nD) : (rd (F := F) m ρ).payload (barCell c) 0 d = lend c d := rfl
theorem payload_r1 (d : Dev nD) : (rd (F := F) m ρ).payload (r1Cell c) 0 d = slotPts c d (landed m ρ c) := by
  show payOf m ρ c (.dma (qS 16)) d = _
  unfold payOf; dsimp only; rw [qS_val, if_neg (by decide), if_pos (by decide)]
theorem payload_r2 (d : Dev nD) : (rd (F := F) m ρ).payload (r2Cell c) 0 d = chunkPts c d fullShare (result m ρ) := by
  show payOf m ρ c (.dma (qS 33)) d = _
  unfold payOf; dsimp only; rw [qS_val, if_neg (by decide), if_neg (by decide), if_neg (by decide)]
theorem payload_s1 (n : ℕ) (h : n < 16) (d : Dev nD) : (rd (F := F) m ρ).payload (dmaCell c ⟨n, by omega⟩) 0 d = rowPts m ρ c n := by
  show payOf m ρ c (.dma (qS ⟨n, _⟩)) d = _
  unfold payOf; dsimp only; rw [qS_val, if_pos (by show 3 + n < 19; omega)]
  congr 1; show 3 + n - 3 = n; omega
theorem payload_s2 (n : ℕ) (h : n < 16) (d : Dev nD) :
    (rd (F := F) m ρ).payload (dmaCell c ⟨17 + n, by omega⟩) 0 d = chunkPts c c (piece n) (result m ρ) := by
  show payOf m ρ c (.dma (qS ⟨17 + n, _⟩)) d = _
  unfold payOf; dsimp only
  rw [qS_val, if_neg (by show ¬ 3 + (17 + n) < 19; omega), if_neg (by show ¬ 3 + (17 + n) = 19; omega), if_pos (by show 3 + (17 + n) < 36; omega)]
  congr 2; show 3 + (17 + n) - 20 = n; omega

theorem card_erase (c : Dev nD) : (Finset.univ.erase c).card = 15 := by
  rw [Finset.card_erase_of_mem (Finset.mem_univ _), Finset.card_univ]; rfl

theorem expect_bar : (rd (F := F) m ρ).expect (barCell c) 0 = 15 := by
  unfold Schedule.expect Schedule.amountOf
  rw [duties_bar, Finset.sum_congr rfl fun d _ => amount_bar m ρ c d, Finset.sum_const, card_erase, smul_eq_mul]
theorem expect_r1 : (rd (F := F) m ρ).expect (r1Cell c) 0 = 16 * N1 := by
  unfold Schedule.expect Schedule.amountOf
  rw [duties_r1, Finset.sum_congr rfl fun d _ => amount_lo m ρ c 16 (by decide) d, Finset.sum_const, Finset.card_univ, smul_eq_mul]; rfl
theorem expect_r2 : (rd (F := F) m ρ).expect (r2Cell c) 0 = 15 * N2 := by
  unfold Schedule.expect Schedule.amountOf
  rw [duties_r2, Finset.sum_congr rfl fun d _ => amount_hi m ρ c 33 (by decide) d, Finset.sum_const, card_erase, smul_eq_mul]
theorem expect_s1 (n : ℕ) (h : n < 16) : (rd (F := F) m ρ).expect (dmaCell c ⟨n, by omega⟩) 0 = N1 := by
  unfold Schedule.expect Schedule.amountOf
  rw [duties_s m ρ c _ (by show n ≠ 16; omega) (by show n < 32; omega), Finset.sum_singleton, amount_lo m ρ c _ (by show n < 17; omega)]
theorem expect_s2 (n : ℕ) (h : n < 15) : (rd (F := F) m ρ).expect (dmaCell c ⟨17 + n, by omega⟩) 0 = N2 := by
  unfold Schedule.expect Schedule.amountOf
  rw [duties_s m ρ c _ (by show 17 + n ≠ 16; omega) (by show 17 + n < 32; omega), Finset.sum_singleton, amount_hi m ρ c _ (by show 17 ≤ 17 + n; omega)]

theorem rest_s1 (n : ℕ) (h : n < 16) :
    bigSep ((rd (F := F) m ρ).duties (dmaCell c ⟨n, by omega⟩) 0 \ ∅) (fun d => (rd (F := F) m ρ).payload (dmaCell c ⟨n, by omega⟩) 0 d) = rowPts m ρ c n := by
  rw [Finset.sdiff_empty, duties_s m ρ c _ (by show n ≠ 16; omega) (by show n < 32; omega), bigSep_singleton, payload_s1 m ρ c n h]
theorem rest_s2 (n : ℕ) (h : n < 15) :
    bigSep ((rd (F := F) m ρ).duties (dmaCell c ⟨17 + n, by omega⟩) 0 \ ∅) (fun d => (rd (F := F) m ρ).payload (dmaCell c ⟨17 + n, by omega⟩) 0 d)
      = chunkPts c c (piece n) (result m ρ) := by
  rw [Finset.sdiff_empty, duties_s m ρ c _ (by show 17 + n ≠ 16; omega) (by show 17 + n < 32; omega), bigSep_singleton, payload_s2 m ρ c n (by omega)]

end Sched

/-! ## What is owed, and the order of the waits -/

/-- What device `c` still owes: handshake signals from the `n`th on, first-exchange packets from the `n`th on, chunks from
    the `n`th on. -/
def owe1 (c : Dev nD) (n : ℕ) : CellTallies nD τ sig Unit := ∑ k ∈ Finset.Ico n 16, tallyAt (barCell (peer c k)) () 1
def owe2 (n : ℕ) : CellTallies nD τ sig Unit := ∑ t ∈ Finset.Ico n 16, tallyAt (r1Cell (dv t)) () N1
def owe3 (c : Dev nD) (n : ℕ) : CellTallies nD τ sig Unit := ∑ k ∈ Finset.Ico n 15, tallyAt (r2Cell (peer c (k + 1))) () N2
def O₀ (c : Dev nD) : CellTallies nD τ sig Unit := owe1 c 1 + (owe2 0 + owe3 c 0)

theorem sum_bot {M : Type*} [AddCommMonoid M] (f : ℕ → M) {a b : ℕ} (h : a < b) :
    ∑ k ∈ Finset.Ico a b, f k = ∑ k ∈ Finset.Ico (a + 1) b, f k + f a := by
  have e : Finset.Ico a b = insert a (Finset.Ico (a + 1) b) := by
    ext x; rw [Finset.mem_insert, Finset.mem_Ico, Finset.mem_Ico]; omega
  rw [e, Finset.sum_insert (by rw [Finset.mem_Ico]; omega), add_comm]

theorem owe1_step (c : Dev nD) {n : ℕ} (h : n < 16) (X : CellTallies nD τ sig Unit) :
    owe1 c n + X = (owe1 c (n + 1) + X) + tallyAt (barCell (peer c n)) () 1 := by
  unfold owe1; rw [sum_bot _ h, add_right_comm]
theorem owe2_step {n : ℕ} (h : n < 16) (X : CellTallies nD τ sig Unit) :
    owe2 n + X = (owe2 (n + 1) + X) + tallyAt (r1Cell (dv n)) () N1 := by
  unfold owe2; rw [sum_bot _ h, add_right_comm]
theorem owe3_step (c : Dev nD) {n : ℕ} (h : n < 15) :
    owe3 c n = owe3 c (n + 1) + tallyAt (r2Cell (peer c (n + 1))) () N2 := by
  unfold owe3; rw [sum_bot _ h]
theorem owe1_done (c : Dev nD) : owe1 c 16 = 0 := by unfold owe1; rw [Finset.Ico_self, Finset.sum_empty]
theorem owe2_done : owe2 16 = 0 := by unfold owe2; rw [Finset.Ico_self, Finset.sum_empty]
theorem owe3_done (c : Dev nD) : owe3 c 15 = 0 := by unfold owe3; rw [Finset.Ico_self, Finset.sum_empty]

def L (g : GSem nD τ sig) : Finset Unit := if g.1.2 = .tc then {()} else ∅
/-- The order: staging and send cells, then the handshake, then the first exchange, then the second. -/
def lv (g : GSem nD τ sig) (_ : Unit) : ℕ := match g.2 with
  | .reg _ => 1
  | .dma q => if (q : Fin 37).val = 19 then 2 else if (q : Fin 37).val = 36 then 3 else 0

theorem L_of_ne (g : GSem nD τ sig) (h : g.1.2 ≠ .tc) : L g = ∅ := if_neg h
theorem L_tc (c : Dev nD) (sm : SemLoc sig) : L ((c : Thread nD τ), sm) = {()} := if_pos rfl

/-- Everything owed in `O` is owed to a cell above `b`. -/
def Above (b : ℕ) (O : CellTallies nD τ sig Unit) : Prop := ∀ g u, 0 < O g u → g.1.2 = .tc ∧ b < lv g u

theorem Above.add {b : ℕ} {O O' : CellTallies nD τ sig Unit} (h : Above b O) (h' : Above b O') : Above b (O + O') := by
  intro g u hp
  rw [Pi.add_apply, Finsupp.add_apply] at hp
  rcases Nat.eq_zero_or_pos (O g u) with h0 | h0
  · exact h' g u (by omega)
  · exact h g u h0
theorem Above.zero {b : ℕ} : Above b 0 := fun g u hp => absurd hp (by rw [Pi.zero_apply, Finsupp.zero_apply]; exact Nat.lt_irrefl 0)
theorem Above.sum {b : ℕ} {S : Finset ℕ} {T : ℕ → CellTallies nD τ sig Unit} (h : ∀ k ∈ S, Above b (T k)) : Above b (∑ k ∈ S, T k) := by
  classical
  induction S using Finset.induction_on with
  | empty => rw [Finset.sum_empty]; exact Above.zero
  | insert a S ha ih =>
    rw [Finset.sum_insert ha]
    exact (h a (Finset.mem_insert_self _ _)).add (ih fun k hk => h k (Finset.mem_insert_of_mem hk))
theorem Above.tally {b : ℕ} {g : GSem nD τ sig} {n : ℕ} (h : g.1.2 = .tc ∧ b < lv g ()) : Above b (tallyAt g () n) := by
  intro g' u hp
  rw [tallyAt_apply] at hp
  by_cases e : g' = g ∧ u = ()
  · rw [e.1]; exact h
  · rw [if_neg e] at hp; exact absurd hp (Nat.lt_irrefl 0)

theorem above_owe1 (c : Dev nD) (n : ℕ) : Above 0 (owe1 c n) := Above.sum fun k _ => Above.tally ⟨rfl, Nat.one_pos⟩
theorem above_owe2 {b : ℕ} (hb : b < 2) (n : ℕ) : Above b (owe2 n) := Above.sum fun k _ => Above.tally ⟨rfl, hb⟩
theorem above_owe3 {b : ℕ} (hb : b < 3) (c : Dev nD) (n : ℕ) : Above b (owe3 c n) := Above.sum fun k _ => Above.tally ⟨rfl, hb⟩
theorem above_O₀ (c : Dev nD) : Above 0 (O₀ c) := (above_owe1 c 1).add ((above_owe2 (by decide) 0).add (above_owe3 (by decide) c 0))

/-- A wait is allowed where everything owed lies above the cell waited on. -/
theorem mayWait (c : Dev nD) (sm : SemLoc sig) (O : CellTallies nD τ sig Unit) (h : Above (lv ((c : Thread nD τ), sm) ()) O) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

end Cert.Lookup

end
-- ==== Proof.Agree.lean ====
/-
# What the stores and transfers leave agrees with the named contents

A packet written into its landing slot, the answer stored into the result, and a chunk copied between results each
leave, on the rows they write, the contents the protocol names.
-/
module

public import proofs.«01_k».proof.Proof.Cells
public import Idealize.ShloMosaic.Lib.Pipeline.ValueKit.Geometry

@[expose] public section

noncomputable section

namespace Cert.Lookup

open Cert.KernelIdeal Cert.KernelIdeal.Gen

open Idealize.ShloMosaic
open Idealize.ShloMosaic.TcCoe
open Idealize.SL Idealize.SL.RA Idealize.SL.BI
open scoped Idealize.SL.BI

variable {F : FTy → Type} [FloatOps F]
variable (m : (ℓ : Loc nD τ sig) → Buf (Elt F) ℓ) (ρ : Dev nD → PrngReg)

theorem slot_at (c : Dev nD) (x : S16x512.Idx) :
    (((slotM c).view.emb x (0 : Fin 3) : Fin _) : ℕ) = c.val
      ∧ (((slotM c).view.emb x (1 : Fin 3) : Fin _) : ℕ) = (x (0 : Fin 2) : Fin _).val
      ∧ (((slotM c).view.emb x (2 : Fin 3) : Fin _) : ℕ) = (x (1 : Fin 2) : Fin _).val := by
  have e := k0_off1_eq c
  have hx : (slotM c).view.emb x = ((View.whole cc0_scratch1).slice (Rect.unit (s := S16x16x512) (k0_off1 c) S1x16x512.size (k0_off1_inb c))).emb
      (Fin.cons ⟨0, Nat.one_pos⟩ x : S1x16x512.Idx) :=
    congrArg ((View.whole cc0_scratch1).slice (Rect.unit (s := S16x16x512) (k0_off1 c) S1x16x512.size (k0_off1_inb c))).emb
      (Shape.reshapeEquiv_cons_one squeezes_S1x16x512_S16x512.numel_eq x)
  rw [hx]
  refine ⟨?_, ?_, ?_⟩
  · exact (ValueKit.view_emb_slice_whole_unit_val cc0_scratch1 _ _ _ _ (0 : Fin 3)).trans (congrArg (· + 0) (congrFun e (0 : Fin 3)))
  · exact (ValueKit.view_emb_slice_whole_unit_val cc0_scratch1 _ _ _ _ (1 : Fin 3)).trans
      ((congrArg (· + (x (0 : Fin 2) : Fin _).val) (congrFun e (1 : Fin 3))).trans (Nat.zero_add _))
  · exact (ValueKit.view_emb_slice_whole_unit_val cc0_scratch1 _ _ _ _ (2 : Fin 3)).trans
      ((congrArg (· + (x (1 : Fin 2) : Fin _).val) (congrFun e (2 : Fin 3))).trans (Nat.zero_add _))

theorem row_at (t : ℕ) (h : t < 16) (x : S16x512.Idx) :
    (((rowM t h).view.emb x (0 : Fin 2) : Fin _) : ℕ) = 16 * t + (x (0 : Fin 2) : Fin _).val
      ∧ (((rowM t h).view.emb x (1 : Fin 2) : Fin _) : ℕ) = (x (1 : Fin 2) : Fin _).val := by
  constructor
  · exact ValueKit.view_emb_slice_whole_unit_val cc0_scratch0 _ _ _ x (0 : Fin 2)
  · exact (ValueKit.view_emb_slice_whole_unit_val cc0_scratch0 _ _ _ x (1 : Fin 2)).trans (Nat.zero_add _)

theorem chunk_at (c : Dev nD) (x : S64x512.Idx) :
    (((chunkM c).view.emb x (0 : Fin 2) : Fin _) : ℕ) = 64 * c.val + (x (0 : Fin 2) : Fin _).val
      ∧ (((chunkM c).view.emb x (1 : Fin 2) : Fin _) : ℕ) = (x (1 : Fin 2) : Fin _).val := by
  have e := k0_off4_eq c
  constructor
  · refine (ValueKit.view_emb_slice_whole_unit_val cc0_stg2_0 _ _ _ x (0 : Fin 2)).trans ?_
    exact congrArg (· + (x (0 : Fin 2) : Fin _).val) (congrFun e (0 : Fin 2))
  · refine (ValueKit.view_emb_slice_whole_unit_val cc0_stg2_0 _ _ _ x (1 : Fin 2)).trans ?_
    exact (congrArg (· + (x (1 : Fin 2) : Fin _).val) (congrFun e (1 : Fin 2))).trans (Nat.zero_add _)

/-- The packet device `c` sends device `t` lands in slot `c` of `t` as named. -/
theorem slot_agree (c : Dev nD) (t : ℕ) (h : t < 16) (f : (cc0_scratch1 : Ref sig .tc).ty.Contents (Elt F)) :
    ∀ i ∈ slotSet c, (slotM c).view.write (Elt F) f ((rowM t h).view.read (Elt F) (packed m ρ c)) Finset.univ i = landed m ρ (dv t) i := by
  intro i hi
  rw [← slotM_set] at hi
  obtain ⟨x, -, rfl⟩ := Finset.mem_map.mp hi
  rw [View.write_emb, if_pos (Finset.mem_univ _), View.read_apply, cast_cast, cast_eq]
  obtain ⟨h0, h1, h2⟩ := slot_at c x
  obtain ⟨r0, r1⟩ := row_at t h x
  unfold landed
  have hc : ((slotM c).view.emb x (0 : Fin 3) : Fin 16) = c := Fin.ext h0
  rw [hc]
  refine congrArg (packed m ρ c) (funext fun a => ?_)
  fin_cases a
  · refine Fin.ext (r0.trans ?_)
    show _ = 16 * (dv t).val + _
    rw [h1, dv_val h]
  · exact Fin.ext (r1.trans h2.symm)

/-- The answer of device `c` put at the rows it computes is the result there. -/
theorem result_at (c : Dev nD) (x : S64x512.Idx) : result m ρ ((chunkM c).view.emb x) = answer m ρ c x := by
  obtain ⟨h0, h1⟩ := chunk_at c x
  have hx : (x (0 : Fin 2) : Fin 64).val < 64 := (x (0 : Fin 2) : Fin 64).isLt
  have hd : ∀ h, (⟨((chunkM c).view.emb x (0 : Fin 2) : Fin 1024).val / 64, h⟩ : Fin 16) = c := fun h => Fin.ext (by
    show ((chunkM c).view.emb x (0 : Fin 2) : Fin _).val / 64 = c.val
    rw [h0]; omega)
  unfold result
  rw [hd]
  refine congrArg (answer m ρ c) (funext fun a => ?_)
  fin_cases a
  · refine Fin.ext ?_
    show ((chunkM c).view.emb x (0 : Fin 2) : Fin _).val % 64 = _
    rw [h0]; show _ = (x (0 : Fin 2) : Fin 64).val; omega
  · exact Fin.ext h1

/-- A chunk copied between results agrees with the result. -/
theorem chunk_agree (c : Dev nD) (f : (cc0_stg2_0 : Ref sig .tc).ty.Contents (Elt F)) :
    ∀ i ∈ chunkSet c, (chunkM c).view.write (Elt F) f ((chunkM c).view.read (Elt F) (result m ρ)) Finset.univ i = result m ρ i := by
  intro i hi
  rw [← chunkM_set] at hi
  obtain ⟨x, -, rfl⟩ := Finset.mem_map.mp hi
  rw [View.write_emb, if_pos (Finset.mem_univ _), View.read_apply, cast_cast, cast_eq]

/-- The rectangle the answer is stored through. -/
abbrev ansR (c : Dev nD) : Rect S1024x512 := Rect.unit (s := S1024x512) (k0_off3 c) S64x512.size (k0_off3_inb c)

theorem ans_emb (c : Dev nD) (x : S64x512.Idx) : ((oM : Memref sig .tc .vmem S1024x512 .bf16).access (ansR c)).emb x = (chunkM c).view.emb x := by
  obtain ⟨h0, h1⟩ := chunk_at c x
  have e := k0_off3_eq c
  funext a
  fin_cases a
  · refine Fin.ext (Eq.trans ?_ h0.symm)
    refine (ValueKit.view_emb_slice_whole_unit_val cc0_stg2_0 _ _ _ x (0 : Fin 2)).trans ?_
    exact congrArg (· + (x (0 : Fin 2) : Fin _).val) (congrFun e (0 : Fin 2))
  · refine Fin.ext (Eq.trans ?_ h1.symm)
    refine (ValueKit.view_emb_slice_whole_unit_val cc0_stg2_0 _ _ _ x (1 : Fin 2)).trans ?_
    exact (congrArg (· + (x (1 : Fin 2) : Fin _).val) (congrFun e (1 : Fin 2))).trans (Nat.zero_add _)

theorem ans_set (c : Dev nD) : ((oM : Memref sig .tc .vmem S1024x512 .bf16).access (ansR c)).set = chunkSet c := by
  rw [← chunkM_set]
  unfold View.set
  refine congrArg (fun e => Finset.map e Finset.univ) ?_
  exact DFunLike.ext _ _ fun x => ans_emb c x

theorem store_agree (c : Dev nD) (f : (cc0_stg2_0 : Ref sig .tc).ty.Contents (Elt F)) :
    ∀ i ∈ chunkSet c, ((oM : Memref sig .tc .vmem S1024x512 .bf16).access (ansR c)).write (Elt F) f (answer m ρ c) Finset.univ i = result m ρ i := by
  intro i hi
  rw [← ans_set] at hi
  obtain ⟨x, -, rfl⟩ := Finset.mem_map.mp hi
  rw [View.write_emb, if_pos (Finset.mem_univ _), ans_emb, result_at]
  rfl

end Cert.Lookup

end
-- ==== Proof.Steps.lean ====
/-
# One lemma for each kind of operation the lookup performs

The body is a straight line of handshake signals, packet sends, chunk sends and waits. A state of the protocol counts how
far a stretch of them has come; each lemma moves its count by one, framing whatever else is held.
-/
module

public import proofs.«01_k».proof.Proof.Agree

@[expose] public section

set_option maxRecDepth 20000

noncomputable section

namespace Cert.Lookup

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The body's weakest precondition on device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A run of a part, then the rest. -/
theorem seq (c : Dev nD) {α β : Type} {P : sProp 𝕄} {p : Prog (TpuEff nD τ sig (Elt F) Λ₀ .tc) α} {k : α → Prog (TpuEff nD τ sig (Elt F) Λ₀ .tc) β}
    {Q : β → sProp 𝕄} (h : P ⊢ wpc c p fun a => wpc c (k a) Q) : P ⊢ wpc c (p >>= k) Q :=
  h.trans (Entails.of_eq (wp_bind _ _ _ _ _ _).symm)

theorem done (c : Dev nD) {α : Type} {P : sProp 𝕄} {a : α} {Q : α → sProp 𝕄} (h : P ⊢ Q a) : P ⊢ wpc c (pure a) Q :=
  h.trans (le_wp_ret _ _ _ _ _)

/-! ## What is known throughout -/

variable (K : Dev nD × Option (Fin 34) → ℕ)

/-- One cell's invariant, and that its round 0 is reached. -/
def record (ck : Dev nD × Option (Fin 34)) : sProp 𝕄 :=
  iprop(cellInv ER (rd m ρ) (K ck) (kcell ck) ∗ reached ER (kcell ck) 0)

instance record_persistent (ck : Dev nD × Option (Fin 34)) : BI.Persistent (record m ρ K ck) := by unfold record; infer_instance

/-- Every cell's, and the levels. -/
def Rec : sProp 𝕄 := iprop(bigSep Finset.univ (record m ρ K) ∗ levAts L lv)

instance Rec_persistent : BI.Persistent (Rec m ρ K) := by unfold Rec; infer_instance

theorem rec_bar (d : Dev nD) : Rec m ρ K ⊢ iprop(cellInv ER (rd m ρ) (K (d, none)) (barCell d) ∗ reached ER (barCell d) 0) := by
  have h := bigSep_elim (Φ := record m ρ K) (Finset.mem_univ ((d, none) : Dev nD × Option (Fin 34)))
  unfold Rec
  exact sep_elim_left.trans h
theorem rec_dma (d : Dev nD) (j : Fin 34) :
    Rec m ρ K ⊢ iprop(cellInv ER (rd m ρ) (K (d, some j)) (dmaCell d j) ∗ reached ER (dmaCell d j) 0) := by
  have h := bigSep_elim (Φ := record m ρ K) (Finset.mem_univ ((d, some j) : Dev nD × Option (Fin 34)))
  unfold Rec
  exact sep_elim_left.trans h
theorem rec_lev : Rec m ρ K ⊢ levAts L lv := by
  unfold Rec
  exact sep_elim_right

/-- What device `c` owes, whatever it has waited on. -/
def Ow (c : Dev nD) (O : CellTallies nD τ sig Unit) : sProp 𝕄 := iprop(∃ W : Waits sig Unit, owes (c : Thread nD τ) O W)

theorem may (c : Dev nD) (sm : SemLoc sig) (O : CellTallies nD τ sig Unit) (h : Above (lv ((c : Thread nD τ), sm) ()) O) :
    Rec m ρ K ⊢ MayWait (c : Thread nD τ) sm () O :=
  (rec_lev m ρ K).trans (mayWait c sm O h)

variable (c : Dev nD)

/-! ## The handshake -/

/-- What is still to be handed to the peers from the `n`th on. -/
def sigRes (k : ℕ) : sProp 𝕄 := iprop(dutyTok ER (barCell (peer c k)) 0 c ∗ lend (F := F) (peer c k) c)
def SigSt (n : ℕ) : sProp 𝕄 :=
  iprop(Rec m ρ K ∗ Ow c (owe1 c n + (owe2 0 + owe3 c 0)) ∗ bigSep (Finset.Ico n 16) (sigRes (F := F) c))

theorem peer_ne {n : ℕ} (h1 : 1 ≤ n) (h : n < 16) : c ≠ peer c n := by
  intro e
  have := congrArg Fin.val e
  have hc : c.val < 16 := c.isLt
  simp only [peer] at this
  omega

theorem step_signal {X : sProp 𝕄} (n : ℕ) (h1 : 1 ≤ n) (h : n < 16) {n' : Dev nD} (hn : n' = peer c n) {α : Type} {Q : α → sProp 𝕄}
    {k : PUnit → Prog (TpuEff nD τ sig (Elt F) Λ₀ .tc) α}
    (H : iprop(SigSt m ρ K c (n + 1) ∗ X) ⊢ wpc c (k ⟨⟩) Q) :
    iprop(SigSt m ρ K c n ∗ X) ⊢ wpc c (.op (.semSignal (Dev.tc n' : Thread nD τ) barS (1#32 : BitVec 32).toInt) k) Q := by
  subst hn
  unfold SigSt
  iintro ⟨⟨#HR, Ho, Hs⟩, HF⟩
  unfold Ow
  icases Ho with ⟨%W, Ho⟩
  ihave Hs := (Entails.of_eq (bigSep_Ico_succ_bot h (sigRes (F := F) c))) $$ Hs
  icases Hs with ⟨Hn, Hs⟩
  unfold sigRes
  icases Hn with ⟨Ht, Hl⟩
  ihave Hr := (rec_bar m ρ K (peer c n)) $$ HR
  icases Hr with ⟨#HI, #Hreach⟩
  have hd : c ∈ (rd (F := F) m ρ).duties (barCell (peer c n)) 0 := by
    rw [duties_bar]; exact Finset.mem_erase.mpr ⟨peer_ne c h1 h, Finset.mem_univ _⟩
  iapply (Rounds.wp_signal 𝒱₀ ER (rd m ρ) (c : Thread nD τ) none (dst := (peer c n : Thread nD τ)) (κ := K (peer c n, none))
      (d := c) hd (amount_bar m ρ (peer c n) c) ()
      (owe1 c (n + 1) + (owe2 0 + owe3 c 0)) (owe1_step c h _)) $$ [Ho Ht Hl]
  · isplitr; · iexact HI
    isplitl [Ho]; · iexact Ho
    isplitl [Ht]; · iexact Ht
    isplitl [Hl]; · rw [payload_bar]; iexact Hl
    iexact Hreach
  iintro Ho
  iapply H
  unfold SigSt Ow
  isplitr [HF]
  · isplitr; · iexact HR
    isplitl [Ho]; · iexists W; iexact Ho
    iexact Hs
  iexact HF

/-- The handshake's own wait: what every peer lends comes with it. -/
theorem step_barrier {X : sProp 𝕄} {α : Type} {Q : α → sProp 𝕄} {k : PUnit → Prog (TpuEff nD τ sig (Elt F) Λ₀ .tc) α}
    (H : iprop((Rec m ρ K ∗ Ow c (owe2 0 + owe3 c 0) ∗ atPos ER (barCell c) 1 ∅ 0 ∗ bigSep (Finset.univ.erase c) (lend (F := F) c)) ∗ X) ⊢ wpc c (k ⟨⟩) Q) :
    iprop(SigSt m ρ K c 16 ∗ (cred (tallyAt (barCell c) () 15) ∗ atPos ER (barCell c) 0 ∅ 0) ∗ X)
      ⊢ wpc c (.op (.semWait barS (15#32 : BitVec 32).toInt) k) Q := by
  unfold SigSt
  iintro ⟨⟨#HR, Ho, -⟩, ⟨Hc, Hat⟩, HF⟩
  unfold Ow
  icases Ho with ⟨%W, Ho⟩
  ihave Ho := (Entails.of_eq (show owes (c : Thread nD τ) (owe1 c 16 + (owe2 0 + owe3 c 0)) W = (owes (c : Thread nD τ) (owe2 0 + owe3 c 0) W : sProp 𝕄) by
    rw [owe1_done, zero_add])) $$ Ho
  ihave Hr := (rec_bar m ρ K c) $$ HR
  icases Hr with ⟨#HI, -⟩
  have hab : Above (lv (barCell c) ()) (owe2 0 + owe3 c 0) := (above_owe2 (b := 1) (by decide) 0).add (above_owe3 (by decide) c 0)
  iapply (Rounds.wp_wait_rest_token 𝒱₀ ER (rd m ρ) (c : Thread nD τ) none (κ := K (c, none))
      (wpE_semWait_eq 𝒱₀ (c : Thread nD τ) none Set.univ) (Set.mem_univ _) () (O := owe2 0 + owe3 c 0) (W := W) (R := 0) (m := 0) (T := ∅)
      (by rw [expect_bar]; decide)) $$ [Hc Ho Hat]
  · isplitr; · iexact HI
    isplitl [Hc]; · iexact Hc
    isplitl [Ho]; · iexact Ho
    isplitr; · iapply (may m ρ K c (.reg barS) (owe2 0 + owe3 c 0) hab); iexact HR
    iexact Hat
  iintro ⟨Ho, Hat, -, Hp⟩
  ihave Hp := (Entails.of_eq (show bigSep ((rd (F := F) m ρ).duties (barCell c) 0 \ ∅) (fun d => (rd (F := F) m ρ).payload (barCell c) 0 d)
      = bigSep (Finset.univ.erase c) (lend (F := F) c) by rw [Finset.sdiff_empty, duties_bar]; rfl)) $$ Hp
  iapply H
  unfold Ow
  isplitr [HF]
  · isplitr; · iexact HR
    isplitl [Ho]; · iexists _; iexact Ho
    isplitl [Hat]; · iexact Hat
    iexact Hp
  iexact HF

/-- What is held of a part and of the rest is held of the whole. -/
theorem gather_rest {S T : Finset (Dev nD)} (Φ : Dev nD → sProp 𝕄) (h : S ⊆ T) : iprop(bigSep S Φ ∗ bigSep (T \ S) Φ) ⊢ bigSep T Φ :=
  Entails.of_eq (bigSep_sdiff_split (Φ := Φ) h).symm

theorem dCell_at {j : ℕ} (h : j < 34) : dCell c j = dmaCell c ⟨j, h⟩ := by
  show dmaCell c _ = _; congr 1; exact Fin.ext (Nat.mod_eq_of_lt h)

/-! ## The first exchange's sends -/

/-- What sending the packet for device `t` takes. -/
def sendRes (t : ℕ) : sProp 𝕄 :=
  iprop(dutyTok ER (r1Cell (dv t)) 0 c ∗ dutyTok ER (dCell c t) 0 (0 : Fin 16) ∗ rowPts m ρ c t ∗ ∃ f, slotPts (F := F) (dv t) c f)
def SendSt (n : ℕ) : sProp 𝕄 :=
  iprop(Rec m ρ K ∗ Ow c (owe2 n + owe3 c 0) ∗ bigSep (Finset.Ico n 16) (sendRes m ρ c)
    ∗ bigSep (Finset.Ico 0 n) (fun t => cred (tallyAt (dCell c t) () N1)))

/-! ## The second exchange's sends -/

/-- What sending the chunk to the `k + 1`st peer takes. -/
def copyRes (k : ℕ) : sProp 𝕄 :=
  iprop(dutyTok ER (r2Cell (peer c (k + 1))) 0 c ∗ dutyTok ER (dCell c (17 + k)) 0 (0 : Fin 16) ∗ chunkPts c c (piece k) (result m ρ)
    ∗ ∃ f, chunkPts (F := F) (peer c (k + 1)) c fullShare f)
def CopySt (n : ℕ) : sProp 𝕄 :=
  iprop(Rec m ρ K ∗ Ow c (owe3 c n) ∗ bigSep (Finset.Ico n 15) (copyRes m ρ c)
    ∗ bigSep (Finset.Ico 0 n) (fun k => cred (tallyAt (dCell c (17 + k)) () N2)))

/-! ## Waits on the receive cells -/

/-- After `n` of the waits on receive cell `j`, of `tot` arrivals of `A` each: some payers' hand-overs are held. -/
def RcvSt (j : Fin 34) (A tot : ℕ) (O : CellTallies nD τ sig Unit) (n : ℕ) : sProp 𝕄 :=
  iprop(Rec m ρ K ∗ Ow c O ∗ (∃ S : Finset (Dev nD), atPos ER (dmaCell c j) 0 S (n * A) ∗ ⌜S ⊆ (rd (F := F) m ρ).duties (dmaCell c j) 0⌝
      ∗ bigSep S (fun d => (rd (F := F) m ρ).payload (dmaCell c j) 0 d))
    ∗ cred (tallyAt (dmaCell c j) () ((tot - n) * A)))

theorem step_recv {X : sProp 𝕄} (j : Fin 34) (A tot : ℕ) (O : CellTallies nD τ sig Unit) (hO : Above (lv (dmaCell c j) ()) O) (n : ℕ) (h : n < tot)
    {w : TpuEff nD τ sig (Elt F) Λ₀ .tc PUnit} (hw : ∀ Q : PUnit → sProp 𝕄, wpE (defs₀ (F := F)) 𝒱₀ (c : Thread nD τ) none Set.univ w Q = waitSpec (c : Thread nD τ) Set.univ (.dma (qS j)) A Q)
    {α : Type} {Q : α → sProp 𝕄} {k : PUnit → Prog (TpuEff nD τ sig (Elt F) Λ₀ .tc) α}
    (H : iprop(RcvSt m ρ K c j A tot O (n + 1) ∗ X) ⊢ wpc c (k ⟨⟩) Q) :
    iprop(RcvSt m ρ K c j A tot O n ∗ X) ⊢ wpc c (.op w k) Q := by
  unfold RcvSt
  iintro ⟨⟨#HR, Ho, ⟨%S, Hat, %hS, Hp⟩, Hc⟩, HF⟩
  unfold Ow
  icases Ho with ⟨%W, Ho⟩
  ihave Hr := (rec_dma m ρ K c j) $$ HR
  icases Hr with ⟨#HI, -⟩
  have hsp : (tot - n) * A = A + (tot - (n + 1)) * A := by
    rw [show tot - n = (tot - (n + 1)) + 1 by omega, Nat.succ_mul, Nat.add_comm]
  ihave Hc := (show (cred (tallyAt (dmaCell c j) () ((tot - n) * A)) : sProp 𝕄)
      ⊢ iprop(cred (tallyAt (dmaCell c j) () A) ∗ cred (tallyAt (dmaCell c j) () ((tot - (n + 1)) * A))) by
    rw [hsp, ← tallyAt_add]; exact (cred_add _ _).1) $$ Hc
  icases Hc with ⟨Hc1, Hc⟩
  iapply (Rounds.wp_wait 𝒱₀ ER (rd m ρ) (c : Thread nD τ) none (κ := K (c, some j)) hw (Set.mem_univ _)
      (cr := Finsupp.single () A) (O := O) (W := W) {(.dma (qS j), ())} (R := 0) (m := n * A) (T := S)
      (by rw [Util.total_single]) (image_single_subset (.dma (qS j)) () A)) $$ [Hc1 Ho Hat]
  · isplitr; · iexact HI
    isplitl [Hc1]; · iexact Hc1
    isplitl [Ho]; · iexact Ho
    isplitr; · iapply (may m ρ K c (.dma (qS j)) O hO); iexact HR
    iexact Hat
  iintro %S' ⟨%hS', Ho, Hat, Hp'⟩
  iapply H
  unfold RcvSt Ow
  isplitr [HF]
  · isplitr; · iexact HR
    isplitl [Ho]; · iexists _; iexact Ho
    isplitr [Hc]
    · iexists S'
      isplitl [Hat]
      · ihave Hat := (Entails.of_eq (show (atPos ER (dmaCell c j) 0 S' (n * A + A) : sProp 𝕄) = atPos ER (dmaCell c j) 0 S' ((n + 1) * A) by
          rw [Nat.succ_mul])) $$ Hat
        iexact Hat
      isplitr; · ipureintro; exact hS'.2.1
      iapply (gather_rest (fun d => (rd (F := F) m ρ).payload (dmaCell c j) 0 d) hS'.1)
      isplitl [Hp]; · iexact Hp
      iexact Hp'
    iexact Hc
  iexact HF

/-- The last of the waits on a receive cell: every payer's hand-over is held. -/
theorem step_recv_last {X : sProp 𝕄} (j : Fin 34) (A tot : ℕ) (O : CellTallies nD τ sig Unit) (hO : Above (lv (dmaCell c j) ()) O) (n : ℕ) (h : n + 1 = tot)
    (he : (rd (F := F) m ρ).expect (dmaCell c j) 0 = tot * A)
    {w : TpuEff nD τ sig (Elt F) Λ₀ .tc PUnit} (hw : ∀ Q : PUnit → sProp 𝕄, wpE (defs₀ (F := F)) 𝒱₀ (c : Thread nD τ) none Set.univ w Q = waitSpec (c : Thread nD τ) Set.univ (.dma (qS j)) A Q)
    {α : Type} {Q : α → sProp 𝕄} {k : PUnit → Prog (TpuEff nD τ sig (Elt F) Λ₀ .tc) α}
    (H : iprop((Rec m ρ K ∗ Ow c O ∗ atPos ER (dmaCell c j) 1 ∅ 0
        ∗ bigSep ((rd (F := F) m ρ).duties (dmaCell c j) 0) (fun d => (rd (F := F) m ρ).payload (dmaCell c j) 0 d)) ∗ X) ⊢ wpc c (k ⟨⟩) Q) :
    iprop(RcvSt m ρ K c j A tot O n ∗ X) ⊢ wpc c (.op w k) Q := by
  unfold RcvSt
  iintro ⟨⟨#HR, Ho, ⟨%S, Hat, %hS, Hp⟩, Hc⟩, HF⟩
  unfold Ow
  icases Ho with ⟨%W, Ho⟩
  ihave Hr := (rec_dma m ρ K c j) $$ HR
  icases Hr with ⟨#HI, -⟩
  ihave Hc := (Entails.of_eq (show (cred (tallyAt (dmaCell c j) () ((tot - n) * A)) : sProp 𝕄) = cred (tallyAt (dmaCell c j) () A) by
    rw [show tot - n = 1 by omega, Nat.one_mul])) $$ Hc
  iapply (Rounds.wp_wait_rest_token 𝒱₀ ER (rd m ρ) (c : Thread nD τ) none (κ := K (c, some j)) hw (Set.mem_univ _)
      () (O := O) (W := W) (R := 0) (m := n * A) (T := S) (by rw [he, ← h, Nat.succ_mul])) $$ [Hc Ho Hat]
  · isplitr; · iexact HI
    isplitl [Hc]; · iexact Hc
    isplitl [Ho]; · iexact Ho
    isplitr; · iapply (may m ρ K c (.dma (qS j)) O hO); iexact HR
    iexact Hat
  iintro ⟨Ho, Hat, -, Hp'⟩
  iapply H
  unfold Ow
  isplitr [HF]
  · isplitr; · iexact HR
    isplitl [Ho]; · iexists _; iexact Ho
    isplitl [Hat]; · iexact Hat
    iapply (gather_rest (fun d => (rd (F := F) m ρ).payload (dmaCell c j) 0 d) hS)
    isplitl [Hp]; · iexact Hp
    iexact Hp'
  iexact HF

/-! ## Waits on the send cells -/

theorem above_none (b : ℕ) : Above b 0 := Above.zero

def PackBack (n : ℕ) : sProp 𝕄 :=
  iprop(Rec m ρ K ∗ Ow c 0 ∗ bigSep (Finset.Ico n 16) (fun t => iprop(cred (tallyAt (dCell c t) () N1) ∗ atPos ER (dCell c t) 0 ∅ 0))
    ∗ bigSep (Finset.Ico 0 n) (fun t => iprop(atPos ER (dCell c t) 1 ∅ 0 ∗ rowPts m ρ c t)))

theorem step_pack {X : sProp 𝕄} (n : ℕ) (h : n < 16)
    {w : TpuEff nD τ sig (Elt F) Λ₀ .tc PUnit} (hw : ∀ Q : PUnit → sProp 𝕄, wpE (defs₀ (F := F)) 𝒱₀ (c : Thread nD τ) none Set.univ w Q
      = waitSpec (c : Thread nD τ) Set.univ (.dma (qS ⟨n % 34, Nat.mod_lt _ (by decide)⟩)) N1 Q)
    {α : Type} {Q : α → sProp 𝕄} {k : PUnit → Prog (TpuEff nD τ sig (Elt F) Λ₀ .tc) α}
    (H : iprop(PackBack m ρ K c (n + 1) ∗ X) ⊢ wpc c (k ⟨⟩) Q) :
    iprop(PackBack m ρ K c n ∗ X) ⊢ wpc c (.op w k) Q := by
  have hm := dCell_at c (j := n) (by omega)
  have he : 0 + N1 = (rd (F := F) m ρ).expect (dCell c n) 0 := by rw [hm, expect_s1 m ρ c n h, Nat.zero_add]
  unfold PackBack
  iintro ⟨⟨#HR, Ho, Hs, Hd⟩, HF⟩
  unfold Ow
  icases Ho with ⟨%W, Ho⟩
  ihave Hs := (Entails.of_eq (bigSep_Ico_succ_bot h (fun t => (iprop(cred (tallyAt (dCell c t) () N1) ∗ atPos ER (dCell c t) 0 ∅ 0) : sProp 𝕄)))) $$ Hs
  icases Hs with ⟨⟨Hc, Hat⟩, Hs⟩
  ihave Hr := (rec_dma m ρ K c ⟨n % 34, Nat.mod_lt _ (by decide)⟩) $$ HR
  icases Hr with ⟨#HI, -⟩
  iapply (Rounds.wp_wait_rest_token 𝒱₀ ER (rd m ρ) (c : Thread nD τ) none (κ := K (c, some ⟨n % 34, Nat.mod_lt _ (by decide)⟩)) hw (Set.mem_univ _)
      () (O := 0) (W := W) (R := 0) (m := 0) (T := ∅) he) $$ [Hc Ho Hat]
  · isplitr; · iexact HI
    isplitl [Hc]; · iexact Hc
    isplitl [Ho]; · iexact Ho
    isplitr; · rw [MayWait_zero]; iempintro
    iexact Hat
  iintro ⟨Ho, Hat, -, Hp⟩
  ihave Hp := (Entails.of_eq (show bigSep ((rd (F := F) m ρ).duties (dCell c n) 0 \ ∅) (fun d => (rd (F := F) m ρ).payload (dCell c n) 0 d) = rowPts m ρ c n by
    rw [hm]; exact rest_s1 m ρ c n h)) $$ Hp
  iapply H
  unfold PackBack Ow
  isplitr [HF]
  · isplitr; · iexact HR
    isplitl [Ho]; · iexists _; iexact Ho
    isplitl [Hs]; · iexact Hs
    iapply (Entails.of_eq (bigSep_Ico_succ_top (Nat.zero_le n) (fun t => (iprop(atPos ER (dCell c t) 1 ∅ 0 ∗ rowPts m ρ c t) : sProp 𝕄))).symm)
    isplitl [Hat Hp]
    · isplitl [Hat]; · iexact Hat
      iexact Hp
    iexact Hd
  iexact HF

def CopyBack (n : ℕ) : sProp 𝕄 :=
  iprop(Rec m ρ K ∗ Ow c 0 ∗ bigSep (Finset.Ico n 15) (fun k => iprop(cred (tallyAt (dCell c (17 + k)) () N2) ∗ atPos ER (dCell c (17 + k)) 0 ∅ 0))
    ∗ bigSep (Finset.Ico 0 n) (fun k => iprop(atPos ER (dCell c (17 + k)) 1 ∅ 0 ∗ chunkPts c c (piece k) (result m ρ))))

theorem step_back {X : sProp 𝕄} (n : ℕ) (h : n < 15)
    {w : TpuEff nD τ sig (Elt F) Λ₀ .tc PUnit} (hw : ∀ Q : PUnit → sProp 𝕄, wpE (defs₀ (F := F)) 𝒱₀ (c : Thread nD τ) none Set.univ w Q
      = waitSpec (c : Thread nD τ) Set.univ (.dma (qS ⟨(17 + n) % 34, Nat.mod_lt _ (by decide)⟩)) N2 Q)
    {α : Type} {Q : α → sProp 𝕄} {k : PUnit → Prog (TpuEff nD τ sig (Elt F) Λ₀ .tc) α}
    (H : iprop(CopyBack m ρ K c (n + 1) ∗ X) ⊢ wpc c (k ⟨⟩) Q) :
    iprop(CopyBack m ρ K c n ∗ X) ⊢ wpc c (.op w k) Q := by
  have hm := dCell_at c (j := 17 + n) (by omega)
  have he : 0 + N2 = (rd (F := F) m ρ).expect (dCell c (17 + n)) 0 := by rw [hm, expect_s2 m ρ c n h, Nat.zero_add]
  unfold CopyBack
  iintro ⟨⟨#HR, Ho, Hs, Hd⟩, HF⟩
  unfold Ow
  icases Ho with ⟨%W, Ho⟩
  ihave Hs := (Entails.of_eq (bigSep_Ico_succ_bot h (fun k => (iprop(cred (tallyAt (dCell c (17 + k)) () N2) ∗ atPos ER (dCell c (17 + k)) 0 ∅ 0) : sProp 𝕄)))) $$ Hs
  icases Hs with ⟨⟨Hc, Hat⟩, Hs⟩
  ihave Hr := (rec_dma m ρ K c ⟨(17 + n) % 34, Nat.mod_lt _ (by decide)⟩) $$ HR
  icases Hr with ⟨#HI, -⟩
  iapply (Rounds.wp_wait_rest_token 𝒱₀ ER (rd m ρ) (c : Thread nD τ) none (κ := K (c, some ⟨(17 + n) % 34, Nat.mod_lt _ (by decide)⟩)) hw (Set.mem_univ _)
      () (O := 0) (W := W) (R := 0) (m := 0) (T := ∅) he) $$ [Hc Ho Hat]
  · isplitr; · iexact HI
    isplitl [Hc]; · iexact Hc
    isplitl [Ho]; · iexact Ho
    isplitr; · rw [MayWait_zero]; iempintro
    iexact Hat
  iintro ⟨Ho, Hat, -, Hp⟩
  ihave Hp := (Entails.of_eq (show bigSep ((rd (F := F) m ρ).duties (dCell c (17 + n)) 0 \ ∅) (fun d => (rd (F := F) m ρ).payload (dCell c (17 + n)) 0 d)
      = chunkPts c c (piece n) (result m ρ) by rw [hm]; exact rest_s2 m ρ c n h)) $$ Hp
  iapply H
  unfold CopyBack Ow
  isplitr [HF]
  · isplitr; · iexact HR
    isplitl [Ho]; · iexists _; iexact Ho
    isplitl [Hs]; · iexact Hs
    iapply (Entails.of_eq (bigSep_Ico_succ_top (Nat.zero_le n) (fun k => (iprop(atPos ER (dCell c (17 + k)) 1 ∅ 0 ∗ chunkPts c c (piece k) (result m ρ)) : sProp 𝕄))).symm)
    isplitl [Hat Hp]
    · isplitl [Hat]; · iexact Hat
      iexact Hp
    iexact Hd
  iexact HF

end Cert.Lookup

end
-- ==== Proof.Sends.lean ====
/-
# The sends of the two exchanges
-/
module

public import proofs.«01_k».proof.Proof.Steps

@[expose] public section

set_option maxRecDepth 20000

noncomputable section

namespace Cert.Lookup

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option (Fin 34) → ℕ) (c : Dev nD)

set_option maxHeartbeats 200000 in
theorem step_send {X : sProp 𝕄} (n : ℕ) (h : n < 16) {n' : Dev nD} (hn : n' = dv n)
    {hsc : (slotM c : Memref sig (Dev.tc n' : Thread nD τ).2.kind .vmem S16x512 .bf16).view.ref.isScScratch = false}
    {hsrc : (rowM n h).view.WordExact} {hdst : (slotM c).view.WordExact}
    {hsem : DmaTarget.Typed .vmem (.dma (qS 16)) (.remote (Dev.tc n' : Thread nD τ) (slotM c : Memref sig (Dev.tc n' : Thread nD τ).2.kind .vmem S16x512 .bf16) (.dma (qS ⟨n % 34, Nat.mod_lt _ (by decide)⟩)) hsc)}
    {α : Type} {Q : α → sProp 𝕄} {k : PUnit → Prog (TpuEff nD τ sig (Elt F) Λ₀ .tc) α}
    (H : iprop(SendSt m ρ K c (n + 1) ∗ X) ⊢ wpc c (k ⟨⟩) Q) :
    iprop(SendSt m ρ K c n ∗ X) ⊢ wpc c (.op (.enqueueDma (rowM n h) (.remote (Dev.tc n' : Thread nD τ) (slotM c) (.dma (qS ⟨n % 34, Nat.mod_lt _ (by decide)⟩)) hsc)
        (.dma (qS 16)) hsrc hdst hsem) k) Q := by
  subst hn
  have hm := dCell_at c (j := n) (by omega)
  unfold SendSt
  iintro ⟨⟨#HR, Ho, Hs, Hd⟩, HF⟩
  unfold Ow
  icases Ho with ⟨%W, Ho⟩
  ihave Hs := (Entails.of_eq (bigSep_Ico_succ_bot h (sendRes m ρ c))) $$ Hs
  icases Hs with ⟨Hn, Hs⟩
  unfold sendRes
  icases Hn with ⟨Ht1, Ht2, Hrow, ⟨%f, Hslot⟩⟩
  ihave Hr1 := (rec_dma m ρ K (dv n) 16) $$ HR
  icases Hr1 with ⟨#HI1, #Hre1⟩
  ihave Hr2 := (rec_dma m ρ K c ⟨n % 34, Nat.mod_lt _ (by decide)⟩) $$ HR
  icases Hr2 with ⟨#HI2, #Hre2⟩
  have hd1 : (0 : Fin 16) ∈ (rd (F := F) m ρ).duties (dCell c n) 0 := by
    rw [hm, duties_s m ρ c _ (by show n ≠ 16; omega) (by show n < 32; omega)]; exact Finset.mem_singleton_self _
  have hd2 : c ∈ (rd (F := F) m ρ).duties (r1Cell (dv n)) 0 := by rw [duties_r1]; exact Finset.mem_univ _
  have ha1 : (rd (F := F) m ρ).amount (dCell c n) 0 (0 : Fin 16) = N1 := by rw [hm]; exact amount_lo m ρ c _ (by show n < 17; omega) _
  have ha2 : (rd (F := F) m ρ).amount (r1Cell (dv n)) 0 c = N1 := amount_lo m ρ (dv n) 16 (by decide) c
  have hp1 : ((rowM n h).view.loc (c : Thread nD τ) ↦[(rowM n h).view.set]{fullShare} packed m ρ c : sProp 𝕄)
      ⊢ (rd (F := F) m ρ).payload (dCell c n) 0 (0 : Fin 16) := by
    rw [hm, payload_s1 m ρ c n h, rowM_set]; exact Entails.refl _
  have hp2 : ((slotM c).view.loc (dv n : Thread nD τ) ↦[(slotM c).view.set]{fullShare}
      ((slotM c).view.write (Elt F) f ((rowM n h).view.read (Elt F) (packed m ρ c)) Finset.univ) : sProp 𝕄)
      ⊢ (rd (F := F) m ρ).payload (r1Cell (dv n)) 0 c := by
    rw [payload_r1, slotM_set]
    exact Entails.of_eq (pointsTo_congr (slot_agree m ρ c n h f))
  ihave Hrow := (Entails.of_eq (show rowPts m ρ c n = ((rowM n h).view.loc (c : Thread nD τ) ↦[(rowM n h).view.set]{fullShare} packed m ρ c : sProp 𝕄) by
    rw [rowM_set]; rfl)) $$ Hrow
  ihave Hslot := (Entails.of_eq (show slotPts (dv n) c f = ((slotM c).view.loc (dv n : Thread nD τ) ↦[(slotM c).view.set]{fullShare} f : sProp 𝕄) by
    rw [slotM_set]; rfl)) $$ Hslot
  have hN : (slotM c).view.amount (.dma (qS 16)) = N1 := rfl
  have hr : τ.routes (c : Thread nD τ) (dv n : Thread nD τ) = true := by routes
  have hh := Rounds.wp_send_pointsTo (defs := defs₀ (F := F)) 𝒱₀ ER (rd m ρ) (c : Thread nD τ) none (Γ := []) (hsc := hsc) (hsrc := hsrc) (hdst := hdst) (hsem := hsem) (Es := Set.univ) (Q := Q) (k := k) (c' := (dv n : Thread nD τ)) (src := rowM n h) (dst := slotM c) (sem := .dma (qS 16)) (sS := .dma (qS ⟨n % 34, Nat.mod_lt _ (by decide)⟩)) (κ₁ := K (c, some ⟨n % 34, Nat.mod_lt _ (by decide)⟩)) (κ₂ := K (dv n, some 16))
      (r₁ := 0) (r₂ := 0) (d₁ := (0 : Fin 16)) (d₂ := c) (fd := f) hd1 hd2 () () N1 hN ha1 ha2 (owe2 (n + 1) + owe3 c 0)
      (owe2_step h (owe3 c 0)) (W := W) hp1 hp2 (hr := hr)
  iapply hh $$ [Hrow Hslot Ho Ht1 Ht2]
  · isplitr; · iexact HI2
    isplitr; · iexact HI1
    isplitl [Hrow]; · iexact Hrow
    isplitl [Hslot]; · iexact Hslot
    isplitl [Ho]; · iexact Ho
    isplitl [Ht2]; · iexact Ht2
    isplitr; · iexact Hre2
    isplitl [Ht1]; · iexact Ht1
    iexact Hre1
  iintro ⟨Hcr, Ho⟩
  iapply H
  unfold SendSt Ow
  isplitr [HF]
  · isplitr; · iexact HR
    isplitl [Ho]; · iexists W; iexact Ho
    isplitl [Hs]; · iexact Hs
    iapply (Entails.of_eq (bigSep_Ico_succ_top (Nat.zero_le n) (fun t => (cred (tallyAt (dCell c t) () N1) : sProp 𝕄))).symm)
    isplitl [Hcr]; · iexact Hcr
    iexact Hd
  iexact HF

theorem step_copy {X : sProp 𝕄} (n : ℕ) (h : n < 15) {n' : Dev nD} (hn : n' = peer c (n + 1))
    {hsc : (chunkM c : Memref sig (Dev.tc n' : Thread nD τ).2.kind .vmem S64x512 .bf16).view.ref.isScScratch = false}
    {hsrc : (chunkM c).view.WordExact} {hdst : (chunkM c).view.WordExact}
    {hsem : DmaTarget.Typed .vmem (.dma (qS 33)) (.remote (Dev.tc n' : Thread nD τ) (chunkM c : Memref sig (Dev.tc n' : Thread nD τ).2.kind .vmem S64x512 .bf16) (.dma (qS ⟨(17 + n) % 34, Nat.mod_lt _ (by decide)⟩)) hsc)}
    {α : Type} {Q : α → sProp 𝕄} {k : PUnit → Prog (TpuEff nD τ sig (Elt F) Λ₀ .tc) α}
    (H : iprop(CopySt m ρ K c (n + 1) ∗ X) ⊢ wpc c (k ⟨⟩) Q) :
    iprop(CopySt m ρ K c n ∗ X) ⊢ wpc c (.op (.enqueueDma (chunkM c) (.remote (Dev.tc n' : Thread nD τ) (chunkM c) (.dma (qS ⟨(17 + n) % 34, Nat.mod_lt _ (by decide)⟩)) hsc)
        (.dma (qS 33)) hsrc hdst hsem) k) Q := by
  subst hn
  have hm := dCell_at c (j := 17 + n) (by omega)
  unfold CopySt
  iintro ⟨⟨#HR, Ho, Hs, Hd⟩, HF⟩
  unfold Ow
  icases Ho with ⟨%W, Ho⟩
  ihave Hs := (Entails.of_eq (bigSep_Ico_succ_bot h (copyRes m ρ c))) $$ Hs
  icases Hs with ⟨Hn, Hs⟩
  unfold copyRes
  icases Hn with ⟨Ht1, Ht2, Hown, ⟨%f, Hdst⟩⟩
  ihave Hr1 := (rec_dma m ρ K (peer c (n + 1)) 33) $$ HR
  icases Hr1 with ⟨#HI1, #Hre1⟩
  ihave Hr2 := (rec_dma m ρ K c ⟨(17 + n) % 34, Nat.mod_lt _ (by decide)⟩) $$ HR
  icases Hr2 with ⟨#HI2, #Hre2⟩
  have hd1 : (0 : Fin 16) ∈ (rd (F := F) m ρ).duties (dCell c (17 + n)) 0 := by
    rw [hm, duties_s m ρ c _ (by show 17 + n ≠ 16; omega) (by show 17 + n < 32; omega)]; exact Finset.mem_singleton_self _
  have hd2 : c ∈ (rd (F := F) m ρ).duties (r2Cell (peer c (n + 1))) 0 := by
    rw [duties_r2]; exact Finset.mem_erase.mpr ⟨peer_ne c (by omega) (by omega), Finset.mem_univ _⟩
  have ha1 : (rd (F := F) m ρ).amount (dCell c (17 + n)) 0 (0 : Fin 16) = N2 := by rw [hm]; exact amount_hi m ρ c _ (by show 17 ≤ 17 + n; omega) _
  have ha2 : (rd (F := F) m ρ).amount (r2Cell (peer c (n + 1))) 0 c = N2 := amount_hi m ρ (peer c (n + 1)) 33 (by decide) c
  have hp1 : ((chunkM c).view.loc (c : Thread nD τ) ↦[(chunkM c).view.set]{piece n} result m ρ : sProp 𝕄)
      ⊢ (rd (F := F) m ρ).payload (dCell c (17 + n)) 0 (0 : Fin 16) := by
    rw [hm, payload_s2 m ρ c n (by omega), chunkM_set]; exact Entails.refl _
  have hp2 : ((chunkM c).view.loc (peer c (n + 1) : Thread nD τ) ↦[(chunkM c).view.set]{fullShare}
      ((chunkM c).view.write (Elt F) f ((chunkM c).view.read (Elt F) (result m ρ)) Finset.univ) : sProp 𝕄)
      ⊢ (rd (F := F) m ρ).payload (r2Cell (peer c (n + 1))) 0 c := by
    rw [payload_r2, chunkM_set]
    exact Entails.of_eq (pointsTo_congr (chunk_agree m ρ c f))
  ihave Hown := (Entails.of_eq (show chunkPts c c (piece n) (result m ρ) = ((chunkM c).view.loc (c : Thread nD τ) ↦[(chunkM c).view.set]{piece n} result m ρ : sProp 𝕄) by
    rw [chunkM_set]; rfl)) $$ Hown
  ihave Hdst := (Entails.of_eq (show chunkPts (peer c (n + 1)) c fullShare f = ((chunkM c).view.loc (peer c (n + 1) : Thread nD τ) ↦[(chunkM c).view.set]{fullShare} f : sProp 𝕄) by
    rw [chunkM_set]; rfl)) $$ Hdst
  have hN : (chunkM c).view.amount (.dma (qS 33)) = N2 := rfl
  have hr : τ.routes (c : Thread nD τ) (peer c (n + 1) : Thread nD τ) = true := by routes
  have hh := Rounds.wp_send_pointsTo (defs := defs₀ (F := F)) 𝒱₀ ER (rd m ρ) (c : Thread nD τ) none (Γ := []) (hsc := hsc) (hsrc := hsrc) (hdst := hdst) (hsem := hsem) (Es := Set.univ) (Q := Q) (k := k) (c' := (peer c (n + 1) : Thread nD τ)) (src := chunkM c) (dst := chunkM c) (sem := .dma (qS 33)) (sS := .dma (qS ⟨(17 + n) % 34, Nat.mod_lt _ (by decide)⟩)) (κ₁ := K (c, some ⟨(17 + n) % 34, Nat.mod_lt _ (by decide)⟩)) (κ₂ := K (peer c (n + 1), some 33))
      (r₁ := 0) (r₂ := 0) (d₁ := (0 : Fin 16)) (d₂ := c) (fd := f) hd1 hd2 () () N2 hN ha1 ha2 (owe3 c (n + 1))
      (owe3_step c h) (W := W) hp1 hp2 (hr := hr)
  iapply hh $$ [Hown Hdst Ho Ht1 Ht2]
  · isplitr; · iexact HI2
    isplitr; · iexact HI1
    isplitl [Hown]; · iexact Hown
    isplitl [Hdst]; · iexact Hdst
    isplitl [Ho]; · iexact Ho
    isplitl [Ht2]; · iexact Ht2
    isplitr; · iexact Hre2
    isplitl [Ht1]; · iexact Ht1
    iexact Hre1
  iintro ⟨Hcr, Ho⟩
  iapply H
  unfold CopySt Ow
  isplitr [HF]
  · isplitr; · iexact HR
    isplitl [Ho]; · iexists W; iexact Ho
    isplitl [Hs]; · iexact Hs
    iapply (Entails.of_eq (bigSep_Ico_succ_top (Nat.zero_le n) (fun k => (cred (tallyAt (dCell c (17 + k)) () N2) : sProp 𝕄))).symm)
    isplitl [Hcr]; · iexact Hcr
    iexact Hd
  iexact HF

end Cert.Lookup

end
-- ==== Proof.Parts.lean ====
/-
# The body's pieces
-/
module

public import proofs.«01_k».proof.Proof.Sends

@[expose] public section

set_option maxRecDepth 20000

noncomputable section

namespace Cert.Lookup

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option (Fin 34) → ℕ) (c : Dev nD)

/-! ## Loads and stores -/

/-- The staged table slice and indices. -/
def tabPts : sProp 𝕄 := iprop((tM : Memref sig .tc .vmem S4096x512 .bf16).view.loc (c : Thread nD τ) ↦{fullShare} tb m ρ c)
def idxPts : sProp 𝕄 := iprop((iM : Memref sig .tc .vmem S1024 .i32).view.loc (c : Thread nD τ) ↦{fullShare} ixs m ρ c)
/-- The scratch the packets are packed into, the landing buffer and the result, whole. -/
def packPts (f : (cc0_scratch0 : Ref sig .tc).ty.Contents (Elt F)) : sProp 𝕄 :=
  iprop((pM : Memref sig .tc .vmem S256x512 .bf16).view.loc (c : Thread nD τ) ↦{fullShare} f)
def landPts (f : (cc0_scratch1 : Ref sig .tc).ty.Contents (Elt F)) : sProp 𝕄 :=
  iprop((lM : Memref sig .tc .vmem S16x16x512 .bf16).view.loc (c : Thread nD τ) ↦{fullShare} f)
def outPts (f : (cc0_stg2_0 : Ref sig .tc).ty.Contents (Elt F)) : sProp 𝕄 :=
  iprop((oM : Memref sig .tc .vmem S1024x512 .bf16).view.loc (c : Thread nD τ) ↦{fullShare} f)

omit [FloatOps F] in
theorem hz1 : (![0] : Fin 1 → Nat) = fun _ => 0 := funext fun a => by fin_cases a <;> rfl
omit [FloatOps F] in
theorem hz2 : (![0, 0] : Fin 2 → Nat) = fun _ => 0 := funext fun a => by fin_cases a <;> rfl
omit [FloatOps F] in
theorem hz3 : (![0, 0, 0] : Fin 3 → Nat) = fun _ => 0 := funext fun a => by fin_cases a <;> rfl

theorem step_table {X : sProp 𝕄} {α : Type} {Q : α → sProp 𝕄} {hi} {hl}
    {k : _ → Prog (TpuEff nD τ sig (Elt F) Λ₀ .tc) α}
    (H : iprop(tabPts m ρ c ∗ X) ⊢ wpc c (k (tb m ρ c)) Q) :
    iprop(tabPts m ρ c ∗ X) ⊢ wpc c (.op (.load tM (Rect.unit (s := S4096x512) ![0, 0] S4096x512.size hi).toLoadRect hl) k) Q := by
  unfold tabPts at *
  iintro ⟨Ht, HX⟩
  iapply (wp_load 𝒱₀ (c : Thread nD τ) none Set.univ (m := tM) (Finset.subset_univ _)) $$ Ht
  iintro Ht
  ihave Hk := H $$ [Ht HX]
  · isplitl [Ht]; · iexact Ht
    iexact HX
  rw [show (tM : Memref sig .tc .vmem S4096x512 .bf16).view.readAt (Elt F) (Rect.unit (s := S4096x512) ![0, 0] S4096x512.size hi).toLoadRect (tb m ρ c) = tb m ρ c from
    Memref.readAt_unit_zero (Elt F) cc0_stg0_0 hz2 _ _]
  iexact Hk

theorem step_indices {X : sProp 𝕄} {α : Type} {Q : α → sProp 𝕄} {hi} {hl}
    {k : _ → Prog (TpuEff nD τ sig (Elt F) Λ₀ .tc) α}
    (H : iprop(idxPts m ρ c ∗ X) ⊢ wpc c (k (ixs m ρ c)) Q) :
    iprop(idxPts m ρ c ∗ X) ⊢ wpc c (.op (.load iM (Rect.unit (s := S1024) ![0] S1024.size hi).toLoadRect hl) k) Q := by
  unfold idxPts at *
  iintro ⟨Ht, HX⟩
  iapply (wp_load 𝒱₀ (c : Thread nD τ) none Set.univ (m := iM) (Finset.subset_univ _)) $$ Ht
  iintro Ht
  ihave Hk := H $$ [Ht HX]
  · isplitl [Ht]; · iexact Ht
    iexact HX
  rw [show (iM : Memref sig .tc .vmem S1024 .i32).view.readAt (Elt F) (Rect.unit (s := S1024) ![0] S1024.size hi).toLoadRect (ixs m ρ c) = ixs m ρ c from
    Memref.readAt_unit_zero (Elt F) cc0_stg1_0 hz1 _ _]
  iexact Hk

theorem step_ask {X : sProp 𝕄} {α : Type} {Q : α → sProp 𝕄} {hl}
    {k : _ → Prog (TpuEff nD τ sig (Elt F) Λ₀ .tc) α}
    (H : iprop(idxPts m ρ c ∗ X) ⊢ wpc c (k (ask m ρ c)) Q) :
    iprop(idxPts m ρ c ∗ X) ⊢ wpc c (.op (.load iM (Rect.unit (s := S1024) (k0_off2 c) S64.size (k0_off2_inb c)).toLoadRect hl) k) Q := by
  unfold idxPts at *
  iintro ⟨Ht, HX⟩
  iapply (wp_load 𝒱₀ (c : Thread nD τ) none Set.univ (m := iM) (Finset.subset_univ _)) $$ Ht
  iintro Ht
  ihave Hk := H $$ [Ht HX]
  · isplitl [Ht]; · iexact Ht
    iexact HX
  iexact Hk

/-- The packing scratch is read (the value is not used), then written whole. -/
theorem step_peek {X : sProp 𝕄} {α : Type} {Q : α → sProp 𝕄} {r hl} (f : (cc0_scratch0 : Ref sig .tc).ty.Contents (Elt F))
    {k : _ → Prog (TpuEff nD τ sig (Elt F) Λ₀ .tc) α}
    (H : ∀ v, iprop(packPts c f ∗ X) ⊢ wpc c (k v) Q) :
    iprop(packPts c f ∗ X) ⊢ wpc c (.op (.load pM r hl) k) Q := by
  unfold packPts at *
  iintro ⟨Ht, HX⟩
  iapply (wp_load 𝒱₀ (c : Thread nD τ) none Set.univ (m := pM) (Finset.subset_univ _)) $$ Ht
  iintro Ht
  iapply (H _) $$ [Ht HX]
  isplitl [Ht]; · iexact Ht
  iexact HX

theorem step_fill {X : sProp 𝕄} {α : Type} {Q : α → sProp 𝕄} {hi hx hm} (f w : (cc0_scratch0 : Ref sig .tc).ty.Contents (Elt F))
    {k : PUnit → Prog (TpuEff nD τ sig (Elt F) Λ₀ .tc) α}
    (H : iprop(packPts c w ∗ X) ⊢ wpc c (k ⟨⟩) Q) :
    iprop(packPts c f ∗ X) ⊢ wpc c (.op (.store pM (Rect.unit (s := S256x512) ![0, 0] S256x512.size hi) w Finset.univ hx hm) k) Q := by
  unfold packPts at *
  iintro ⟨Ht, HX⟩
  iapply (wp_store 𝒱₀ (c : Thread nD τ) none Set.univ (m := pM) (r := Rect.unit (s := S256x512) ![0, 0] S256x512.size hi) (Mk := Finset.univ) (Finset.subset_univ _)) $$ Ht
  iintro Ht
  ihave Ht := (Entails.of_eq (congrArg (fun g => ((pM : Memref sig .tc .vmem S256x512 .bf16).view.loc (c : Thread nD τ) ↦{fullShare} g : sProp 𝕄))
    (Memref.write_access_unit_zero_univ (Elt F) cc0_scratch0 hz2 hi f w))) $$ Ht
  iapply H $$ [Ht HX]
  isplitl [Ht]; · iexact Ht
  iexact HX

/-- The landing buffer, read whole. -/
theorem step_landed {X : sProp 𝕄} {α : Type} {Q : α → sProp 𝕄} {hi} {hl}
    {k : _ → Prog (TpuEff nD τ sig (Elt F) Λ₀ .tc) α}
    (H : iprop(landPts c (landed m ρ c) ∗ X) ⊢ wpc c (k (landed m ρ c)) Q) :
    iprop(landPts c (landed m ρ c) ∗ X) ⊢ wpc c (.op (.load lM (Rect.unit (s := S16x16x512) ![0, 0, 0] S16x16x512.size hi).toLoadRect hl) k) Q := by
  unfold landPts at *
  iintro ⟨Ht, HX⟩
  iapply (wp_load 𝒱₀ (c : Thread nD τ) none Set.univ (m := lM) (Finset.subset_univ _)) $$ Ht
  iintro Ht
  ihave Hk := H $$ [Ht HX]
  · isplitl [Ht]; · iexact Ht
    iexact HX
  rw [show (lM : Memref sig .tc .vmem S16x16x512 .bf16).view.readAt (Elt F) (Rect.unit (s := S16x16x512) ![0, 0, 0] S16x16x512.size hi).toLoadRect (landed m ρ c) = landed m ρ c from
    Memref.readAt_unit_zero (Elt F) cc0_scratch1 hz3 _ _]
  iexact Hk

/-- The own chunk of the result is read (the value is not used), then written with the answer. -/
theorem step_own {X : sProp 𝕄} {α : Type} {Q : α → sProp 𝕄} {hl} (f : (cc0_stg2_0 : Ref sig .tc).ty.Contents (Elt F))
    {k : _ → Prog (TpuEff nD τ sig (Elt F) Λ₀ .tc) α}
    (H : ∀ v, iprop(chunkPts c c fullShare f ∗ X) ⊢ wpc c (k v) Q) :
    iprop(chunkPts c c fullShare f ∗ X) ⊢ wpc c (.op (.load oM (ansR c).toLoadRect hl) k) Q := by
  unfold chunkPts at *
  iintro ⟨Ht, HX⟩
  iapply (wp_load_rect 𝒱₀ (c : Thread nD τ) none Set.univ (m := oM) (r := ansR c) (by rw [ans_set])) $$ Ht
  iintro Ht
  iapply (H _) $$ [Ht HX]
  isplitl [Ht]; · iexact Ht
  iexact HX

theorem step_answer {X : sProp 𝕄} {α : Type} {Q : α → sProp 𝕄} {hx hm} (f : (cc0_stg2_0 : Ref sig .tc).ty.Contents (Elt F))
    {w : _} (hw : w = answer m ρ c)
    {k : PUnit → Prog (TpuEff nD τ sig (Elt F) Λ₀ .tc) α}
    (H : iprop(chunkPts c c fullShare (result m ρ) ∗ X) ⊢ wpc c (k ⟨⟩) Q) :
    iprop(chunkPts c c fullShare f ∗ X) ⊢ wpc c (.op (.store oM (ansR c) w Finset.univ hx hm) k) Q := by
  subst hw
  unfold chunkPts at *
  iintro ⟨Ht, HX⟩
  iapply (wp_store 𝒱₀ (c : Thread nD τ) none Set.univ (m := oM) (r := ansR c) (Mk := Finset.univ) (show ((oM : Memref sig .tc .vmem S1024x512 .bf16).access (ansR c)).set ⊆ chunkSet c by rw [ans_set])) $$ Ht
  iintro Ht
  ihave Ht := (Entails.of_eq (pointsTo_congr (store_agree m ρ c f))) $$ Ht
  iapply H $$ [Ht HX]
  isplitl [Ht]; · iexact Ht
  iexact HX

/-! ## Waits on the two receive cells -/

theorem above_r1 : Above (lv (dmaCell c 16) ()) (owe3 c 0) := above_owe3 (b := 2) (by decide) c 0

theorem step_r1 {X : sProp 𝕄} (n : ℕ) (h : n < 16)
    {w : TpuEff nD τ sig (Elt F) Λ₀ .tc PUnit} (hw : ∀ Q : PUnit → sProp 𝕄, wpE (defs₀ (F := F)) 𝒱₀ (c : Thread nD τ) none Set.univ w Q = waitSpec (c : Thread nD τ) Set.univ (.dma (qS 16)) N1 Q)
    {α : Type} {Q : α → sProp 𝕄} {k : PUnit → Prog (TpuEff nD τ sig (Elt F) Λ₀ .tc) α}
    (H : iprop(RcvSt m ρ K c 16 N1 16 (owe3 c 0) (n + 1) ∗ X) ⊢ wpc c (k ⟨⟩) Q) :
    iprop(RcvSt m ρ K c 16 N1 16 (owe3 c 0) n ∗ X) ⊢ wpc c (.op w k) Q :=
  step_recv m ρ K c 16 N1 16 (owe3 c 0) (above_r1 c) n h hw H

theorem step_r2 {X : sProp 𝕄} (n : ℕ) (h : n < 15)
    {w : TpuEff nD τ sig (Elt F) Λ₀ .tc PUnit} (hw : ∀ Q : PUnit → sProp 𝕄, wpE (defs₀ (F := F)) 𝒱₀ (c : Thread nD τ) none Set.univ w Q = waitSpec (c : Thread nD τ) Set.univ (.dma (qS 33)) N2 Q)
    {α : Type} {Q : α → sProp 𝕄} {k : PUnit → Prog (TpuEff nD τ sig (Elt F) Λ₀ .tc) α}
    (H : iprop(RcvSt m ρ K c 33 N2 15 0 (n + 1) ∗ X) ⊢ wpc c (k ⟨⟩) Q) :
    iprop(RcvSt m ρ K c 33 N2 15 0 n ∗ X) ⊢ wpc c (.op w k) Q :=
  step_recv m ρ K c 33 N2 15 0 Above.zero n h hw H

/-! ## The pieces -/

theorem part4 {X : sProp 𝕄} {Q : (BitVec 32) → sProp 𝕄} (v2 : BitVec 32) (v133 : BitVec 32)
    (H : ∀ r, iprop(SigSt m ρ K c 9 ∗ X) ⊢ Q r) :
    iprop(SigSt m ρ K c 3 ∗ X) ⊢ wpc c (k0_part4 (F := F) tM (Memref.isWhole_whole _) iM (Memref.isWhole_whole _) oM (Memref.isWhole_whole _)
      pM (Memref.isWhole_whole _) lM (Memref.isWhole_whole _) cc0_scratch2 cc0_scratch3 cc0_scratch4 cc0_scratch5 c v2 (SemArray.scalar (sig.barrier 0 rfl)) v133) Q := by
  rw [k0_part4_eq_skeleton]; unfold k0_part4_skel
  simp only [semSignalWord, semWaitWord, Prog.lift, Prog.bind_op, Prog.bind_ret, Prog.pure_eq_ret]
  refine step_signal m ρ K c 3 (by decide) (by decide) (Fin.ext (k0_dev3_eq c)) ?_
  refine step_signal m ρ K c 4 (by decide) (by decide) (Fin.ext (k0_dev4_eq c)) ?_
  refine step_signal m ρ K c 5 (by decide) (by decide) (Fin.ext (k0_dev5_eq c)) ?_
  refine step_signal m ρ K c 6 (by decide) (by decide) (Fin.ext (k0_dev6_eq c)) ?_
  refine step_signal m ρ K c 7 (by decide) (by decide) (Fin.ext (k0_dev7_eq c)) ?_
  refine step_signal m ρ K c 8 (by decide) (by decide) (Fin.ext (k0_dev8_eq c)) ?_
  exact done c (H _)

theorem part5 {X : sProp 𝕄} {Q : (BitVec 32) → sProp 𝕄} (v2 : BitVec 32) (v157 : BitVec 32)
    (H : ∀ r, iprop(SigSt m ρ K c 15 ∗ X) ⊢ Q r) :
    iprop(SigSt m ρ K c 9 ∗ X) ⊢ wpc c (k0_part5 (F := F) tM (Memref.isWhole_whole _) iM (Memref.isWhole_whole _) oM (Memref.isWhole_whole _)
      pM (Memref.isWhole_whole _) lM (Memref.isWhole_whole _) cc0_scratch2 cc0_scratch3 cc0_scratch4 cc0_scratch5 c v2 (SemArray.scalar (sig.barrier 0 rfl)) v157) Q := by
  rw [k0_part5_eq_skeleton]; unfold k0_part5_skel
  simp only [semSignalWord, semWaitWord, Prog.lift, Prog.bind_op, Prog.bind_ret, Prog.pure_eq_ret]
  refine step_signal m ρ K c 9 (by decide) (by decide) (Fin.ext (k0_dev9_eq c)) ?_
  refine step_signal m ρ K c 10 (by decide) (by decide) (Fin.ext (k0_dev10_eq c)) ?_
  refine step_signal m ρ K c 11 (by decide) (by decide) (Fin.ext (k0_dev11_eq c)) ?_
  refine step_signal m ρ K c 12 (by decide) (by decide) (Fin.ext (k0_dev12_eq c)) ?_
  refine step_signal m ρ K c 13 (by decide) (by decide) (Fin.ext (k0_dev13_eq c)) ?_
  refine step_signal m ρ K c 14 (by decide) (by decide) (Fin.ext (k0_dev14_eq c)) ?_
  exact done c (H _)

theorem part7 {X : sProp 𝕄} {Q : (PUnit) → sProp 𝕄} (c3_i32_109 : BitVec 32) (c1_i32_110 : BitVec 32)
    (H : iprop(SendSt m ρ K c 6 ∗ X) ⊢ Q ⟨⟩) :
    iprop(SendSt m ρ K c 3 ∗ X) ⊢ wpc c (k0_part7 (F := F) tM (Memref.isWhole_whole _) iM (Memref.isWhole_whole _) oM (Memref.isWhole_whole _)
      pM (Memref.isWhole_whole _) lM (Memref.isWhole_whole _) cc0_scratch2 cc0_scratch3 cc0_scratch4 cc0_scratch5 c c3_i32_109 c1_i32_110) Q := by
  rw [k0_part7_eq_skeleton]; unfold k0_part7_skel
  simp only [semSignalWord, semWaitWord, Prog.lift, Prog.bind_op, Prog.bind_ret, Prog.pure_eq_ret]
  refine step_send m ρ K c 3 (by decide) (Fin.ext k0_dev19_eq) ?_
  refine step_send m ρ K c 4 (by decide) (Fin.ext k0_dev20_eq) ?_
  refine step_send m ρ K c 5 (by decide) (Fin.ext k0_dev21_eq) ?_
  exact done c H

theorem part8 {X : sProp 𝕄} {Q : (PUnit) → sProp 𝕄}
    (H : iprop(SendSt m ρ K c 10 ∗ X) ⊢ Q ⟨⟩) :
    iprop(SendSt m ρ K c 6 ∗ X) ⊢ wpc c (k0_part8 (F := F) tM (Memref.isWhole_whole _) iM (Memref.isWhole_whole _) oM (Memref.isWhole_whole _)
      pM (Memref.isWhole_whole _) lM (Memref.isWhole_whole _) cc0_scratch2 cc0_scratch3 cc0_scratch4 cc0_scratch5 c) Q := by
  rw [k0_part8_eq_skeleton]; unfold k0_part8_skel
  simp only [semSignalWord, semWaitWord, Prog.lift, Prog.bind_op, Prog.bind_ret, Prog.pure_eq_ret]
  refine step_send m ρ K c 6 (by decide) (Fin.ext k0_dev22_eq) ?_
  refine step_send m ρ K c 7 (by decide) (Fin.ext k0_dev23_eq) ?_
  refine step_send m ρ K c 8 (by decide) (Fin.ext k0_dev24_eq) ?_
  refine step_send m ρ K c 9 (by decide) (Fin.ext k0_dev25_eq) ?_
  exact done c H

theorem part9 {X : sProp 𝕄} {Q : (PUnit) → sProp 𝕄}
    (H : iprop(SendSt m ρ K c 14 ∗ X) ⊢ Q ⟨⟩) :
    iprop(SendSt m ρ K c 10 ∗ X) ⊢ wpc c (k0_part9 (F := F) tM (Memref.isWhole_whole _) iM (Memref.isWhole_whole _) oM (Memref.isWhole_whole _)
      pM (Memref.isWhole_whole _) lM (Memref.isWhole_whole _) cc0_scratch2 cc0_scratch3 cc0_scratch4 cc0_scratch5 c) Q := by
  rw [k0_part9_eq_skeleton]; unfold k0_part9_skel
  simp only [semSignalWord, semWaitWord, Prog.lift, Prog.bind_op, Prog.bind_ret, Prog.pure_eq_ret]
  refine step_send m ρ K c 10 (by decide) (Fin.ext k0_dev26_eq) ?_
  refine step_send m ρ K c 11 (by decide) (Fin.ext k0_dev27_eq) ?_
  refine step_send m ρ K c 12 (by decide) (Fin.ext k0_dev28_eq) ?_
  refine step_send m ρ K c 13 (by decide) (Fin.ext k0_dev29_eq) ?_
  exact done c H

theorem part11 {X : sProp 𝕄} {Q : (FVec F S64x256 .bf16) → sProp 𝕄} (v302 : IVec S64x1 32) (v321 : IVec S64x1 1) (v322 : IVec S64x1 32)
    (H : iprop(RcvSt m ρ K c 16 N1 16 (owe3 c 0) 1 ∗ X) ⊢ Q (k0_pay17 (F := F) v302 v321 v322)) :
    iprop(RcvSt m ρ K c 16 N1 16 (owe3 c 0) 0 ∗ X) ⊢ wpc c (k0_part11 (F := F) tM (Memref.isWhole_whole _) iM (Memref.isWhole_whole _) oM (Memref.isWhole_whole _)
      pM (Memref.isWhole_whole _) lM (Memref.isWhole_whole _) cc0_scratch2 cc0_scratch3 cc0_scratch4 cc0_scratch5 c v302 v321 v322) Q := by
  rw [k0_part11_eq_skeleton]; unfold k0_part11_skel
  simp only [semSignalWord, semWaitWord, Prog.lift, Prog.bind_op, Prog.bind_ret, Prog.pure_eq_ret]
  refine step_r1 m ρ K c 0 (by decide) (by exact wpE_waitDma2_eq 𝒱₀ (c : Thread nD τ) none Set.univ) ?_
  exact done c H

theorem part12 {X : sProp 𝕄} {Q : (PUnit) → sProp 𝕄}
    (H : iprop(RcvSt m ρ K c 16 N1 16 (owe3 c 0) 5 ∗ X) ⊢ Q ⟨⟩) :
    iprop(RcvSt m ρ K c 16 N1 16 (owe3 c 0) 1 ∗ X) ⊢ wpc c (k0_part12 (F := F) tM (Memref.isWhole_whole _) iM (Memref.isWhole_whole _) oM (Memref.isWhole_whole _)
      pM (Memref.isWhole_whole _) lM (Memref.isWhole_whole _) cc0_scratch2 cc0_scratch3 cc0_scratch4 cc0_scratch5 c) Q := by
  rw [k0_part12_eq_skeleton]; unfold k0_part12_skel
  simp only [semSignalWord, semWaitWord, Prog.lift, Prog.bind_op, Prog.bind_ret, Prog.pure_eq_ret]
  refine step_r1 m ρ K c 1 (by decide) (by exact wpE_waitDma2_eq 𝒱₀ (c : Thread nD τ) none Set.univ) ?_
  refine step_r1 m ρ K c 2 (by decide) (by exact wpE_waitDma2_eq 𝒱₀ (c : Thread nD τ) none Set.univ) ?_
  refine step_r1 m ρ K c 3 (by decide) (by exact wpE_waitDma2_eq 𝒱₀ (c : Thread nD τ) none Set.univ) ?_
  refine step_r1 m ρ K c 4 (by decide) (by exact wpE_waitDma2_eq 𝒱₀ (c : Thread nD τ) none Set.univ) ?_
  exact done c H

theorem part13 {X : sProp 𝕄} {Q : (BitVec 32) → sProp 𝕄}
    (H : ∀ r, iprop(RcvSt m ρ K c 16 N1 16 (owe3 c 0) 10 ∗ X) ⊢ Q r) :
    iprop(RcvSt m ρ K c 16 N1 16 (owe3 c 0) 5 ∗ X) ⊢ wpc c (k0_part13 (F := F) tM (Memref.isWhole_whole _) iM (Memref.isWhole_whole _) oM (Memref.isWhole_whole _)
      pM (Memref.isWhole_whole _) lM (Memref.isWhole_whole _) cc0_scratch2 cc0_scratch3 cc0_scratch4 cc0_scratch5 c) Q := by
  rw [k0_part13_eq_skeleton]; unfold k0_part13_skel
  simp only [semSignalWord, semWaitWord, Prog.lift, Prog.bind_op, Prog.bind_ret, Prog.pure_eq_ret]
  refine step_r1 m ρ K c 5 (by decide) (by exact wpE_waitDma2_eq 𝒱₀ (c : Thread nD τ) none Set.univ) ?_
  refine step_r1 m ρ K c 6 (by decide) (by exact wpE_waitDma2_eq 𝒱₀ (c : Thread nD τ) none Set.univ) ?_
  refine step_r1 m ρ K c 7 (by decide) (by exact wpE_waitDma2_eq 𝒱₀ (c : Thread nD τ) none Set.univ) ?_
  refine step_r1 m ρ K c 8 (by decide) (by exact wpE_waitDma2_eq 𝒱₀ (c : Thread nD τ) none Set.univ) ?_
  refine step_r1 m ρ K c 9 (by decide) (by exact wpE_waitDma2_eq 𝒱₀ (c : Thread nD τ) none Set.univ) ?_
  exact done c (H _)

theorem part14 {X : sProp 𝕄} {Q : (PUnit) → sProp 𝕄} (c10_i32_293 : BitVec 32)
    (H : iprop(RcvSt m ρ K c 16 N1 16 (owe3 c 0) 14 ∗ X) ⊢ Q ⟨⟩) :
    iprop(RcvSt m ρ K c 16 N1 16 (owe3 c 0) 10 ∗ X) ⊢ wpc c (k0_part14 (F := F) tM (Memref.isWhole_whole _) iM (Memref.isWhole_whole _) oM (Memref.isWhole_whole _)
      pM (Memref.isWhole_whole _) lM (Memref.isWhole_whole _) cc0_scratch2 cc0_scratch3 cc0_scratch4 cc0_scratch5 c c10_i32_293) Q := by
  rw [k0_part14_eq_skeleton]; unfold k0_part14_skel
  simp only [semSignalWord, semWaitWord, Prog.lift, Prog.bind_op, Prog.bind_ret, Prog.pure_eq_ret]
  refine step_r1 m ρ K c 10 (by decide) (by exact wpE_waitDma2_eq 𝒱₀ (c : Thread nD τ) none Set.univ) ?_
  refine step_r1 m ρ K c 11 (by decide) (by exact wpE_waitDma2_eq 𝒱₀ (c : Thread nD τ) none Set.univ) ?_
  refine step_r1 m ρ K c 12 (by decide) (by exact wpE_waitDma2_eq 𝒱₀ (c : Thread nD τ) none Set.univ) ?_
  refine step_r1 m ρ K c 13 (by decide) (by exact wpE_waitDma2_eq 𝒱₀ (c : Thread nD τ) none Set.univ) ?_
  exact done c H

theorem part16 {X : sProp 𝕄} {Q : (Σ' (v465 : BitVec 32) (v475 : BitVec 32), BitVec 32) → sProp 𝕄} (v2 : BitVec 32) (v455 : BitVec 32)
    (H : ∀ r, iprop(CopySt m ρ K c 4 ∗ X) ⊢ Q r) :
    iprop(CopySt m ρ K c 1 ∗ X) ⊢ wpc c (k0_part16 (F := F) tM (Memref.isWhole_whole _) iM (Memref.isWhole_whole _) oM (Memref.isWhole_whole _)
      pM (Memref.isWhole_whole _) lM (Memref.isWhole_whole _) cc0_scratch2 cc0_scratch3 cc0_scratch4 cc0_scratch5 c v2 v455) Q := by
  rw [k0_part16_eq_skeleton]; unfold k0_part16_skel
  simp only [semSignalWord, semWaitWord, Prog.lift, Prog.bind_op, Prog.bind_ret, Prog.pure_eq_ret]
  refine step_copy m ρ K c 1 (by decide) (Fin.ext (k0_dev33_eq c)) ?_
  refine step_copy m ρ K c 2 (by decide) (Fin.ext (k0_dev34_eq c)) ?_
  refine step_copy m ρ K c 3 (by decide) (Fin.ext (k0_dev35_eq c)) ?_
  exact done c (H _)

theorem part17 {X : sProp 𝕄} {Q : (Σ' (v495 : BitVec 32) (v505 : BitVec 32), BitVec 32) → sProp 𝕄} (v2 : BitVec 32) (v485 : BitVec 32)
    (H : ∀ r, iprop(CopySt m ρ K c 7 ∗ X) ⊢ Q r) :
    iprop(CopySt m ρ K c 4 ∗ X) ⊢ wpc c (k0_part17 (F := F) tM (Memref.isWhole_whole _) iM (Memref.isWhole_whole _) oM (Memref.isWhole_whole _)
      pM (Memref.isWhole_whole _) lM (Memref.isWhole_whole _) cc0_scratch2 cc0_scratch3 cc0_scratch4 cc0_scratch5 c v2 v485) Q := by
  rw [k0_part17_eq_skeleton]; unfold k0_part17_skel
  simp only [semSignalWord, semWaitWord, Prog.lift, Prog.bind_op, Prog.bind_ret, Prog.pure_eq_ret]
  refine step_copy m ρ K c 4 (by decide) (Fin.ext (k0_dev36_eq c)) ?_
  refine step_copy m ρ K c 5 (by decide) (Fin.ext (k0_dev37_eq c)) ?_
  refine step_copy m ρ K c 6 (by decide) (Fin.ext (k0_dev38_eq c)) ?_
  exact done c (H _)

theorem part18 {X : sProp 𝕄} {Q : (Σ' (v525 : BitVec 32) (v535 : BitVec 32), BitVec 32) → sProp 𝕄} (v2 : BitVec 32) (v515 : BitVec 32)
    (H : ∀ r, iprop(CopySt m ρ K c 10 ∗ X) ⊢ Q r) :
    iprop(CopySt m ρ K c 7 ∗ X) ⊢ wpc c (k0_part18 (F := F) tM (Memref.isWhole_whole _) iM (Memref.isWhole_whole _) oM (Memref.isWhole_whole _)
      pM (Memref.isWhole_whole _) lM (Memref.isWhole_whole _) cc0_scratch2 cc0_scratch3 cc0_scratch4 cc0_scratch5 c v2 v515) Q := by
  rw [k0_part18_eq_skeleton]; unfold k0_part18_skel
  simp only [semSignalWord, semWaitWord, Prog.lift, Prog.bind_op, Prog.bind_ret, Prog.pure_eq_ret]
  refine step_copy m ρ K c 7 (by decide) (Fin.ext (k0_dev39_eq c)) ?_
  refine step_copy m ρ K c 8 (by decide) (Fin.ext (k0_dev40_eq c)) ?_
  refine step_copy m ρ K c 9 (by decide) (Fin.ext (k0_dev41_eq c)) ?_
  exact done c (H _)

theorem part19 {X : sProp 𝕄} {Q : (Σ' (v555 : BitVec 32) (v565 : BitVec 32), BitVec 32) → sProp 𝕄} (v2 : BitVec 32) (v545 : BitVec 32)
    (H : ∀ r, iprop(CopySt m ρ K c 13 ∗ X) ⊢ Q r) :
    iprop(CopySt m ρ K c 10 ∗ X) ⊢ wpc c (k0_part19 (F := F) tM (Memref.isWhole_whole _) iM (Memref.isWhole_whole _) oM (Memref.isWhole_whole _)
      pM (Memref.isWhole_whole _) lM (Memref.isWhole_whole _) cc0_scratch2 cc0_scratch3 cc0_scratch4 cc0_scratch5 c v2 v545) Q := by
  rw [k0_part19_eq_skeleton]; unfold k0_part19_skel
  simp only [semSignalWord, semWaitWord, Prog.lift, Prog.bind_op, Prog.bind_ret, Prog.pure_eq_ret]
  refine step_copy m ρ K c 10 (by decide) (Fin.ext (k0_dev42_eq c)) ?_
  refine step_copy m ρ K c 11 (by decide) (Fin.ext (k0_dev43_eq c)) ?_
  refine step_copy m ρ K c 12 (by decide) (Fin.ext (k0_dev44_eq c)) ?_
  exact done c (H _)

theorem part21 {X : sProp 𝕄} {Q : (Σ' (v626 : BitVec 32), BitVec 32) → sProp 𝕄} (v475 : BitVec 32) (v485 : BitVec 32) (v495 : BitVec 32) (v505 : BitVec 32) (v515 : BitVec 32) (v525 : BitVec 32) (v602 : BitVec 32) (c0_i32_493 : BitVec 32)
    (H : ∀ r, iprop(RcvSt m ρ K c 33 N2 15 0 8 ∗ X) ⊢ Q r) :
    iprop(RcvSt m ρ K c 33 N2 15 0 2 ∗ X) ⊢ wpc c (k0_part21 (F := F) tM (Memref.isWhole_whole _) iM (Memref.isWhole_whole _) oM (Memref.isWhole_whole _)
      pM (Memref.isWhole_whole _) lM (Memref.isWhole_whole _) cc0_scratch2 cc0_scratch3 cc0_scratch4 cc0_scratch5 c v475 v485 v495 v505 v515 v525 v602 c0_i32_493) Q := by
  rw [k0_part21_eq_skeleton]; unfold k0_part21_skel
  simp only [semSignalWord, semWaitWord, Prog.lift, Prog.bind_op, Prog.bind_ret, Prog.pure_eq_ret]
  refine step_r2 m ρ K c 2 (by decide) (by exact wpE_waitDma2_eq 𝒱₀ (c : Thread nD τ) none Set.univ) ?_
  refine step_r2 m ρ K c 3 (by decide) (by exact wpE_waitDma2_eq 𝒱₀ (c : Thread nD τ) none Set.univ) ?_
  refine step_r2 m ρ K c 4 (by decide) (by exact wpE_waitDma2_eq 𝒱₀ (c : Thread nD τ) none Set.univ) ?_
  refine step_r2 m ρ K c 5 (by decide) (by exact wpE_waitDma2_eq 𝒱₀ (c : Thread nD τ) none Set.univ) ?_
  refine step_r2 m ρ K c 6 (by decide) (by exact wpE_waitDma2_eq 𝒱₀ (c : Thread nD τ) none Set.univ) ?_
  refine step_r2 m ρ K c 7 (by decide) (by exact wpE_waitDma2_eq 𝒱₀ (c : Thread nD τ) none Set.univ) ?_
  exact done c (H _)

theorem part22 {X : sProp 𝕄} {Q : (Σ' (v650 : BitVec 32), BitVec 32) → sProp 𝕄} (v535 : BitVec 32) (v545 : BitVec 32) (v555 : BitVec 32) (v565 : BitVec 32) (v575 : BitVec 32) (v585 : BitVec 32) (v626 : BitVec 32) (c0_i32_523 : BitVec 32)
    (H : ∀ r, iprop(RcvSt m ρ K c 33 N2 15 0 14 ∗ X) ⊢ Q r) :
    iprop(RcvSt m ρ K c 33 N2 15 0 8 ∗ X) ⊢ wpc c (k0_part22 (F := F) tM (Memref.isWhole_whole _) iM (Memref.isWhole_whole _) oM (Memref.isWhole_whole _)
      pM (Memref.isWhole_whole _) lM (Memref.isWhole_whole _) cc0_scratch2 cc0_scratch3 cc0_scratch4 cc0_scratch5 c v535 v545 v555 v565 v575 v585 v626 c0_i32_523) Q := by
  rw [k0_part22_eq_skeleton]; unfold k0_part22_skel
  simp only [semSignalWord, semWaitWord, Prog.lift, Prog.bind_op, Prog.bind_ret, Prog.pure_eq_ret]
  refine step_r2 m ρ K c 8 (by decide) (by exact wpE_waitDma2_eq 𝒱₀ (c : Thread nD τ) none Set.univ) ?_
  refine step_r2 m ρ K c 9 (by decide) (by exact wpE_waitDma2_eq 𝒱₀ (c : Thread nD τ) none Set.univ) ?_
  refine step_r2 m ρ K c 10 (by decide) (by exact wpE_waitDma2_eq 𝒱₀ (c : Thread nD τ) none Set.univ) ?_
  refine step_r2 m ρ K c 11 (by decide) (by exact wpE_waitDma2_eq 𝒱₀ (c : Thread nD τ) none Set.univ) ?_
  refine step_r2 m ρ K c 12 (by decide) (by exact wpE_waitDma2_eq 𝒱₀ (c : Thread nD τ) none Set.univ) ?_
  refine step_r2 m ρ K c 13 (by decide) (by exact wpE_waitDma2_eq 𝒱₀ (c : Thread nD τ) none Set.univ) ?_
  exact done c (H _)

theorem part24 {X : sProp 𝕄} {Q : (PUnit) → sProp 𝕄}
    (H : iprop(PackBack m ρ K c 8 ∗ X) ⊢ Q ⟨⟩) :
    iprop(PackBack m ρ K c 4 ∗ X) ⊢ wpc c (k0_part24 (F := F) tM (Memref.isWhole_whole _) iM (Memref.isWhole_whole _) oM (Memref.isWhole_whole _)
      pM (Memref.isWhole_whole _) lM (Memref.isWhole_whole _) cc0_scratch2 cc0_scratch3 cc0_scratch4 cc0_scratch5 c) Q := by
  rw [k0_part24_eq_skeleton]; unfold k0_part24_skel
  simp only [semSignalWord, semWaitWord, Prog.lift, Prog.bind_op, Prog.bind_ret, Prog.pure_eq_ret]
  refine step_pack m ρ K c 4 (by decide) (by exact wpE_waitDma2_eq 𝒱₀ (c : Thread nD τ) none Set.univ) ?_
  refine step_pack m ρ K c 5 (by decide) (by exact wpE_waitDma2_eq 𝒱₀ (c : Thread nD τ) none Set.univ) ?_
  refine step_pack m ρ K c 6 (by decide) (by exact wpE_waitDma2_eq 𝒱₀ (c : Thread nD τ) none Set.univ) ?_
  refine step_pack m ρ K c 7 (by decide) (by exact wpE_waitDma2_eq 𝒱₀ (c : Thread nD τ) none Set.univ) ?_
  exact done c H

theorem part25 {X : sProp 𝕄} {Q : (PUnit) → sProp 𝕄}
    (H : iprop(PackBack m ρ K c 13 ∗ X) ⊢ Q ⟨⟩) :
    iprop(PackBack m ρ K c 8 ∗ X) ⊢ wpc c (k0_part25 (F := F) tM (Memref.isWhole_whole _) iM (Memref.isWhole_whole _) oM (Memref.isWhole_whole _)
      pM (Memref.isWhole_whole _) lM (Memref.isWhole_whole _) cc0_scratch2 cc0_scratch3 cc0_scratch4 cc0_scratch5 c) Q := by
  rw [k0_part25_eq_skeleton]; unfold k0_part25_skel
  simp only [semSignalWord, semWaitWord, Prog.lift, Prog.bind_op, Prog.bind_ret, Prog.pure_eq_ret]
  refine step_pack m ρ K c 8 (by decide) (by exact wpE_waitDma2_eq 𝒱₀ (c : Thread nD τ) none Set.univ) ?_
  refine step_pack m ρ K c 9 (by decide) (by exact wpE_waitDma2_eq 𝒱₀ (c : Thread nD τ) none Set.univ) ?_
  refine step_pack m ρ K c 10 (by decide) (by exact wpE_waitDma2_eq 𝒱₀ (c : Thread nD τ) none Set.univ) ?_
  refine step_pack m ρ K c 11 (by decide) (by exact wpE_waitDma2_eq 𝒱₀ (c : Thread nD τ) none Set.univ) ?_
  refine step_pack m ρ K c 12 (by decide) (by exact wpE_waitDma2_eq 𝒱₀ (c : Thread nD τ) none Set.univ) ?_
  exact done c H

theorem part27 {X : sProp 𝕄} {Q : (PUnit) → sProp 𝕄}
    (H : iprop(CopyBack m ρ K c 9 ∗ X) ⊢ Q ⟨⟩) :
    iprop(CopyBack m ρ K c 2 ∗ X) ⊢ wpc c (k0_part27 (F := F) tM (Memref.isWhole_whole _) iM (Memref.isWhole_whole _) oM (Memref.isWhole_whole _)
      pM (Memref.isWhole_whole _) lM (Memref.isWhole_whole _) cc0_scratch2 cc0_scratch3 cc0_scratch4 cc0_scratch5 c) Q := by
  rw [k0_part27_eq_skeleton]; unfold k0_part27_skel
  simp only [semSignalWord, semWaitWord, Prog.lift, Prog.bind_op, Prog.bind_ret, Prog.pure_eq_ret]
  refine step_back m ρ K c 2 (by decide) (by exact wpE_waitDma2_eq 𝒱₀ (c : Thread nD τ) none Set.univ) ?_
  refine step_back m ρ K c 3 (by decide) (by exact wpE_waitDma2_eq 𝒱₀ (c : Thread nD τ) none Set.univ) ?_
  refine step_back m ρ K c 4 (by decide) (by exact wpE_waitDma2_eq 𝒱₀ (c : Thread nD τ) none Set.univ) ?_
  refine step_back m ρ K c 5 (by decide) (by exact wpE_waitDma2_eq 𝒱₀ (c : Thread nD τ) none Set.univ) ?_
  refine step_back m ρ K c 6 (by decide) (by exact wpE_waitDma2_eq 𝒱₀ (c : Thread nD τ) none Set.univ) ?_
  refine step_back m ρ K c 7 (by decide) (by exact wpE_waitDma2_eq 𝒱₀ (c : Thread nD τ) none Set.univ) ?_
  refine step_back m ρ K c 8 (by decide) (by exact wpE_waitDma2_eq 𝒱₀ (c : Thread nD τ) none Set.univ) ?_
  exact done c H

end Cert.Lookup

end
-- ==== Proof.Regroup.lean ====
/-
# Regrouping what is held
-/
module

public import proofs.«01_k».proof.Proof.Parts

@[expose] public section

set_option maxRecDepth 20000

noncomputable section

namespace Cert.Lookup

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option (Fin 34) → ℕ) (c : Dev nD)

omit [FloatOps F] in
theorem both_ways {P Q : sProp 𝕄} (h : P ⊢ Q) (h' : Q ⊢ P) : P = Q := BI.equiv_iff.mp ⟨h, h'⟩

omit [FloatOps F] in
theorem swap {P Q R : sProp 𝕄} : iprop(P ∗ Q ∗ R) ⊢ iprop(Q ∗ P ∗ R) := by
  iintro ⟨A, B, C⟩
  isplitl [B]; · iexact B
  isplitl [A]; · iexact A
  iexact C

/-! ## Whole buffers cut up -/

omit [FloatOps F] in
theorem slots_eq (d : Dev nD) (f : (cc0_scratch1 : Ref sig .tc).ty.Contents (Elt F)) :
    (landPts d f : sProp 𝕄) = bigSep Finset.univ fun s : Dev nD => slotPts d s f := by
  have hu : (Finset.univ : Finset S16x16x512.Idx) = (Finset.univ : Finset (Dev nD)).biUnion slotSet := by
    ext i
    simp only [Finset.mem_univ, Finset.mem_biUnion, true_iff, slotSet, Finset.mem_filter, true_and]
    exact ⟨(i 0 : Fin 16), rfl⟩
  show (((d : Thread nD τ).loc cc0_scratch1) ↦[(Finset.univ : Finset S16x16x512.Idx)]{fullShare} f : sProp 𝕄) = _
  rw [hu]
  refine pointsTo_biUnion (ℓ := (d : Thread nD τ).loc cc0_scratch1) Finset.univ slotSet fun t _ t' _ h => ?_
  refine Finset.disjoint_left.mpr fun i hi hj => h (Fin.ext ?_)
  rw [slotSet, Finset.mem_filter] at hi hj
  exact hi.2.symm.trans hj.2

omit [FloatOps F] in
theorem chunks_eq (d : Dev nD) (f : (cc0_stg2_0 : Ref sig .tc).ty.Contents (Elt F)) :
    (outPts d f : sProp 𝕄) = bigSep Finset.univ fun s : Dev nD => chunkPts d s fullShare f := by
  have hu : (Finset.univ : Finset S1024x512.Idx) = (Finset.univ : Finset (Dev nD)).biUnion chunkSet := by
    ext i
    simp only [Finset.mem_univ, Finset.mem_biUnion, true_iff, chunkSet, Finset.mem_filter, true_and]
    have h : (i 0 : Fin 1024).val < 1024 := (i 0 : Fin 1024).isLt
    exact ⟨(⟨(i 0 : Fin 1024).val / 64, by omega⟩ : Fin 16), rfl⟩
  show (((d : Thread nD τ).loc cc0_stg2_0) ↦[(Finset.univ : Finset S1024x512.Idx)]{fullShare} f : sProp 𝕄) = _
  rw [hu]
  refine pointsTo_biUnion (ℓ := (d : Thread nD τ).loc cc0_stg2_0) Finset.univ chunkSet fun t _ t' _ h => ?_
  refine Finset.disjoint_left.mpr fun i hi hj => h (Fin.ext ?_)
  rw [chunkSet, Finset.mem_filter] at hi hj
  exact hi.2.symm.trans hj.2

theorem rows_eq : (packPts c (packed m ρ c) : sProp 𝕄) = bigSep (Finset.Ico 0 16) (rowPts m ρ c) := by
  have hu : (Finset.univ : Finset S256x512.Idx) = (Finset.Ico 0 16).biUnion rowSet := by
    ext i
    simp only [Finset.mem_univ, Finset.mem_biUnion, true_iff, rowSet, Finset.mem_filter, true_and, Finset.mem_Ico]
    have h : (i 0 : Fin 256).val < 256 := (i 0 : Fin 256).isLt
    exact ⟨(i 0 : Fin 256).val / 16, ⟨Nat.zero_le _, by omega⟩, rfl⟩
  show (((c : Thread nD τ).loc cc0_scratch0) ↦[(Finset.univ : Finset S256x512.Idx)]{fullShare} packed m ρ c : sProp 𝕄) = _
  rw [hu]
  refine pointsTo_biUnion (ℓ := (c : Thread nD τ).loc cc0_scratch0) (Finset.Ico 0 16) rowSet fun t _ t' _ h => ?_
  refine Finset.disjoint_left.mpr fun i hi hj => h ?_
  rw [rowSet, Finset.mem_filter] at hi hj
  exact hi.2.symm.trans hj.2

omit [FloatOps F] in
/-- A chunk read by the first `n` of the sends: a piece each, and what is left. -/
theorem pieces_eq (d s : Dev nD) (f : (cc0_stg2_0 : Ref sig .tc).ty.Contents (Elt F)) (n : ℕ) :
    (chunkPts d s fullShare f : sProp 𝕄) = iprop(bigSep (Finset.Ico 0 n) (fun k => chunkPts d s (piece k) f) ∗ chunkPts d s (leftover n) f) := by
  induction n with
  | zero =>
    rw [Finset.Ico_self, bigSep_empty]
    exact (BI.equiv_iff.mp emp_sep).symm
  | succ n ih =>
    rw [ih, bigSep_Ico_succ_top (Nat.zero_le n)]
    have h : (chunkPts d s (leftover n) f : sProp 𝕄) = iprop(chunkPts d s (piece n) f ∗ chunkPts d s (leftover (n + 1)) f) := by
      unfold chunkPts
      exact both_ways (pointsTo_share (PosShare.mem_left_op_right (leftover n))).1 (pointsTo_share (PosShare.mem_left_op_right (leftover n))).2
    rw [h]
    refine both_ways (?_ : iprop(_ ∗ _ ∗ _) ⊢ iprop((_ ∗ _) ∗ _)) (?_ : iprop((_ ∗ _) ∗ _) ⊢ iprop(_ ∗ _ ∗ _))
    · iintro ⟨A, B, C⟩
      isplitr [C]
      · isplitl [B]; · iexact B
        iexact A
      iexact C
    · iintro ⟨⟨B, A⟩, C⟩
      isplitl [A]; · iexact A
      isplitl [B]; · iexact B
      iexact C

/-! ## Devices counted from the own one, or from zero -/

omit [FloatOps F] in
theorem all_eq (Φ : Dev nD → sProp 𝕄) : bigSep Finset.univ Φ = bigSep (Finset.Ico 0 16) fun t => Φ (dv t) := by
  rw [← bigSep_image_of_injOn (f := dv) (s := Finset.Ico 0 16)]
  · congr 1
  · intro a ha b hb h
    have ha' := (Finset.mem_Ico.mp (Finset.mem_coe.mp ha)).2
    have hb' := (Finset.mem_Ico.mp (Finset.mem_coe.mp hb)).2
    have h' := congrArg Fin.val h
    rw [dv_val ha', dv_val hb'] at h'
    exact h'

omit [FloatOps F] in
theorem others_eq (Φ : Dev nD → sProp 𝕄) : bigSep (Finset.univ.erase c) Φ = bigSep (Finset.Ico 1 16) fun k => Φ (peer c k) := by
  rw [← bigSep_image_of_injOn (f := peer c) (s := Finset.Ico 1 16)]
  · refine congrArg (fun S => bigSep S Φ) ?_
    ext x
    simp only [Finset.mem_erase, Finset.mem_univ, and_true, Finset.mem_image, Finset.mem_Ico]
    have hx : x.val < 16 := x.isLt
    have hc : c.val < 16 := c.isLt
    constructor
    · intro h
      have h' : x.val ≠ c.val := fun e => h (Fin.ext e)
      refine ⟨(x.val + 16 - c.val) % 16, ⟨by omega, by omega⟩, Fin.ext ?_⟩
      show (c.val + (x.val + 16 - c.val) % 16) % 16 = x.val
      omega
    · rintro ⟨k, ⟨h1, h2⟩, rfl⟩ e
      have e' : (c.val + k) % 16 = c.val := congrArg Fin.val e
      omega
  · intro a ha b hb h
    have ha' := (Finset.mem_Ico.mp (Finset.mem_coe.mp ha)).2
    have hb' := (Finset.mem_Ico.mp (Finset.mem_coe.mp hb)).2
    have h' := congrArg Fin.val h
    have hc : c.val < 16 := c.isLt
    simp only [peer] at h'
    omega

omit [FloatOps F] in
theorem others_eq' (Φ : Dev nD → sProp 𝕄) : bigSep (Finset.univ.erase c) Φ = bigSep (Finset.Ico 0 15) fun k => Φ (peer c (k + 1)) := by
  rw [others_eq, ← bigSep_image_of_injOn (f := fun k => k + 1) (s := Finset.Ico 0 15) (fun a _ b _ h => Nat.succ.inj h) (fun k => Φ (peer c k))]
  refine congrArg (fun S => bigSep S fun k => Φ (peer c k)) ?_
  decide

omit [FloatOps F] in
/-- One device's cells, by kind. -/
theorem cells_eq (Φ : Option (Fin 34) → sProp 𝕄) : bigSep Finset.univ Φ
    = iprop(Φ none ∗ Φ (some 16) ∗ Φ (some 33) ∗ Φ (some 32) ∗ bigSep (Finset.Ico 0 16) (fun t => Φ (some ⟨t % 34, Nat.mod_lt _ (by decide)⟩))
      ∗ bigSep (Finset.Ico 0 15) (fun k => Φ (some ⟨(17 + k) % 34, Nat.mod_lt _ (by decide)⟩))) := by
  have hA : bigSep (Finset.Ico 0 16) (fun t => Φ (some ⟨t % 34, Nat.mod_lt _ (by decide)⟩))
      = bigSep ((Finset.Ico 0 16).image fun t : ℕ => (some ⟨t % 34, Nat.mod_lt _ (by decide)⟩ : Option (Fin 34))) Φ := by
    rw [bigSep_image_of_injOn]
    intro a ha b hb h
    have ha' := (Finset.mem_Ico.mp (Finset.mem_coe.mp ha)).2
    have hb' := (Finset.mem_Ico.mp (Finset.mem_coe.mp hb)).2
    have h' := congrArg Fin.val (Option.some.inj h)
    simp only at h'
    omega
  have hB : bigSep (Finset.Ico 0 15) (fun k => Φ (some ⟨(17 + k) % 34, Nat.mod_lt _ (by decide)⟩))
      = bigSep ((Finset.Ico 0 15).image fun k : ℕ => (some ⟨(17 + k) % 34, Nat.mod_lt _ (by decide)⟩ : Option (Fin 34))) Φ := by
    rw [bigSep_image_of_injOn]
    intro a ha b hb h
    have ha' := (Finset.mem_Ico.mp (Finset.mem_coe.mp ha)).2
    have hb' := (Finset.mem_Ico.mp (Finset.mem_coe.mp hb)).2
    have h' := congrArg Fin.val (Option.some.inj h)
    simp only at h'
    omega
  rw [hA, hB, show (Finset.univ : Finset (Option (Fin 34))) = insert none (insert (some 16) (insert (some 33) (insert (some 32)
    (((Finset.Ico 0 16).image fun t : ℕ => (some ⟨t % 34, Nat.mod_lt _ (by decide)⟩ : Option (Fin 34)))
      ∪ ((Finset.Ico 0 15).image fun k : ℕ => (some ⟨(17 + k) % 34, Nat.mod_lt _ (by decide)⟩ : Option (Fin 34))))))) by decide]
  rw [bigSep_insert (by decide), bigSep_insert (by decide), bigSep_insert (by decide), bigSep_insert (by decide), bigSep_union (by decide)]
  rfl

end Cert.Lookup

end
-- ==== Proof.Body.lean ====
/-
# The body, from its start to its end
-/
module

public import proofs.«01_k».proof.Proof.Regroup

@[expose] public section

set_option maxRecDepth 20000

noncomputable section

namespace Cert.Lookup

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option (Fin 34) → ℕ) (c : Dev nD)

/-! ## The pieces that pass from one stretch to the next -/

theorem part1 {X : sProp 𝕄} {Q : (Σ' (d0 : Dev nD) (v2 : BitVec 32) (v4 : FVec F S4096x512 .bf16) (v38 : IVec S128x1 32) (v42 : IVec S128x1 32), IVec S128 32) → sProp 𝕄}
    (H : ∀ v2, iprop(tabPts m ρ c ∗ idxPts m ρ c ∗ X) ⊢ Q ⟨c, v2, k0_pay1 (tb m ρ c), k0_pay4 (F := F) c (ixs m ρ c), k0_pay5 (F := F) c (ixs m ρ c), k0_pay6 (F := F) c (ixs m ρ c)⟩) :
    iprop(tabPts m ρ c ∗ idxPts m ρ c ∗ X) ⊢ wpc c (k0_part1 (F := F) tM (Memref.isWhole_whole _) iM (Memref.isWhole_whole _) oM (Memref.isWhole_whole _)
      pM (Memref.isWhole_whole _) lM (Memref.isWhole_whole _) cc0_scratch2 cc0_scratch3 cc0_scratch4 cc0_scratch5) Q := by
  rw [k0_part1_eq_skeleton]; unfold k0_part1_skel
  simp only [semSignalWord, semWaitWord, Prog.lift, Prog.bind_op, Prog.bind_ret, Prog.pure_eq_ret]
  unfold wpc; rw [wp_deviceId]
  refine step_table m ρ c ?_
  refine swap.trans (step_indices m ρ c (swap.trans ?_))
  exact done c (H _)

theorem part2 {X : sProp 𝕄} {Q : _ → sProp 𝕄} (v4 : FVec F S4096x512 .bf16) (v38 : IVec S128x1 32) (v42 : IVec S128x1 32) (v44 : IVec S128 32)
    (H : X ⊢ Q ⟨k0_pay7 v44, k0_pay8 v4 v38, k0_pay9 v42, k0_pay10 (F := F) v42 v44, k0_pay11⟩) :
    X ⊢ wpc c (k0_part2 (F := F) tM (Memref.isWhole_whole _) iM (Memref.isWhole_whole _) oM (Memref.isWhole_whole _)
      pM (Memref.isWhole_whole _) lM (Memref.isWhole_whole _) cc0_scratch2 cc0_scratch3 cc0_scratch4 cc0_scratch5 v4 v38 v42 v44) Q := by
  rw [k0_part2_eq_skeleton]; unfold k0_part2_skel
  exact done c H

theorem part3 {X : sProp 𝕄} {Q : (Σ' (v123 : Sems sig S_), BitVec 32) → sProp 𝕄} (v2 : BitVec 32) (v47 : IVec S128x1 1) (v55 : FVec F S128x512 .bf16) (v79 : IVec S128x1 32) (v91 : FVec F S128x128 .f32) (v94 : IVec S128x128 1)
    (f : (cc0_scratch0 : Ref sig .tc).ty.Contents (Elt F))
    (H : ∀ r, iprop(SigSt m ρ K c 3 ∗ packPts c (k0_pay12 v47 v55 v79 v91 v94) ∗ X) ⊢ Q ⟨SemArray.scalar (sig.barrier 0 rfl), r⟩) :
    iprop(SigSt m ρ K c 1 ∗ packPts c f ∗ X) ⊢ wpc c (k0_part3 (F := F) tM (Memref.isWhole_whole _) iM (Memref.isWhole_whole _) oM (Memref.isWhole_whole _)
      pM (Memref.isWhole_whole _) lM (Memref.isWhole_whole _) cc0_scratch2 cc0_scratch3 cc0_scratch4 cc0_scratch5 c v2 v47 v55 v79 v91 v94) Q := by
  rw [k0_part3_eq_skeleton]; unfold k0_part3_skel
  simp only [semSignalWord, semWaitWord, Prog.lift, Prog.bind_op, Prog.bind_ret, Prog.pure_eq_ret]
  refine swap.trans (step_peek c f fun v => step_fill c f _ (swap.trans ?_))
  refine step_signal m ρ K c 1 (by decide) (by decide) (Fin.ext (k0_dev1_eq c)) ?_
  refine step_signal m ρ K c 2 (by decide) (by decide) (Fin.ext (k0_dev2_eq c)) ?_
  exact done c (H _)

/-- What the own barrier wait takes, and what the sends take besides what is lent. -/
def barRes : sProp 𝕄 := iprop(cred (tallyAt (barCell c) () 15) ∗ atPos ER (barCell c) 0 ∅ 0)
def sendPre : sProp 𝕄 :=
  iprop(bigSep (Finset.Ico 0 16) (fun t => dutyTok ER (r1Cell (dv t)) 0 c) ∗ bigSep (Finset.Ico 0 16) (fun t => dutyTok ER (dCell c t) 0 (0 : Fin 16))
    ∗ packPts c (packed m ρ c) ∗ ∃ f, slotPts (F := F) c c f)
/-- After it: the peers' result rows for the own chunk. -/
def borrowed : sProp 𝕄 :=
  iprop(atPos ER (barCell c) 1 ∅ 0 ∗ bigSep (Finset.univ.erase c) fun d => iprop(∃ f, chunkPts (F := F) d c fullShare f))

theorem to_send {X : sProp 𝕄} :
    iprop((Rec m ρ K ∗ Ow c (owe2 0 + owe3 c 0) ∗ atPos ER (barCell c) 1 ∅ 0 ∗ bigSep (Finset.univ.erase c) (lend (F := F) c)) ∗ sendPre m ρ c ∗ X)
      ⊢ iprop(SendSt m ρ K c 0 ∗ borrowed (F := F) c ∗ X) := by
  unfold SendSt sendPre borrowed
  iintro ⟨⟨#HR, Ho, Hat, Hl⟩, ⟨Ht1, Ht2, Hp, Hs⟩, HX⟩
  ihave Hl := (Entails.of_eq (show bigSep (Finset.univ.erase c) (lend (F := F) c)
    = iprop(bigSep (Finset.univ.erase c) (fun d => iprop(∃ f, slotPts (F := F) d c f)) ∗ bigSep (Finset.univ.erase c) fun d => iprop(∃ f, chunkPts (F := F) d c fullShare f)) from
      BI.bigSep_sep _ _ _)) $$ Hl
  icases Hl with ⟨Hsl, Hch⟩
  ihave Hsl := (Entails.of_eq (show iprop((∃ f, slotPts (F := F) c c f) ∗ bigSep (Finset.univ.erase c) (fun d => iprop(∃ f, slotPts (F := F) d c f)))
    = bigSep (Finset.Ico 0 16) (fun t => (iprop(∃ f, slotPts (F := F) (dv t) c f) : sProp 𝕄)) by
      rw [← all_eq (fun d => iprop(∃ f, slotPts (F := F) d c f)), BI.bigSep_erase (Finset.mem_univ c)]; rfl)) $$ [Hs Hsl]
  · isplitl [Hs]; · iexact Hs
    iexact Hsl
  ihave Hp := (Entails.of_eq (rows_eq m ρ c)) $$ Hp
  isplitr [Hat Hch HX]
  · isplitr; · iexact HR
    isplitl [Ho]; · iexact Ho
    isplitl [Ht1 Ht2 Hp Hsl]
    · unfold sendRes
      iapply (Entails.of_eq (show iprop(bigSep (Finset.Ico 0 16) (fun t => (dutyTok ER (r1Cell (dv t)) 0 c : sProp 𝕄)) ∗ bigSep (Finset.Ico 0 16) (fun t => dutyTok ER (dCell c t) 0 (0 : Fin 16))
          ∗ bigSep (Finset.Ico 0 16) (rowPts m ρ c) ∗ bigSep (Finset.Ico 0 16) (fun t => iprop(∃ f, slotPts (F := F) (dv t) c f)))
        = bigSep (Finset.Ico 0 16) (fun t => iprop(dutyTok ER (r1Cell (dv t)) 0 c ∗ dutyTok ER (dCell c t) 0 (0 : Fin 16) ∗ rowPts m ρ c t ∗ ∃ f, slotPts (F := F) (dv t) c f)) by
          rw [bigSep_sep', bigSep_sep', bigSep_sep']))
      isplitl [Ht1]; · iexact Ht1
      isplitl [Ht2]; · iexact Ht2
      isplitl [Hp]; · iexact Hp
      iexact Hsl
    · rw [Finset.Ico_self, bigSep_empty]; iempintro
  isplitl [Hat Hch]
  · isplitl [Hat]; · iexact Hat
    iexact Hch
  iexact HX

theorem part6 {X : sProp 𝕄} {Q : (Σ' (c3_i32_109 : BitVec 32), BitVec 32) → sProp 𝕄} (v181 : BitVec 32)
    (H : ∀ r, iprop(SendSt m ρ K c 3 ∗ borrowed (F := F) c ∗ X) ⊢ Q r) :
    iprop(SigSt m ρ K c 15 ∗ barRes (F := F) c ∗ sendPre m ρ c ∗ X) ⊢ wpc c (k0_part6 (F := F) tM (Memref.isWhole_whole _) iM (Memref.isWhole_whole _) oM (Memref.isWhole_whole _)
      pM (Memref.isWhole_whole _) lM (Memref.isWhole_whole _) cc0_scratch2 cc0_scratch3 cc0_scratch4 cc0_scratch5 c (SemArray.scalar (sig.barrier 0 rfl)) v181) Q := by
  rw [k0_part6_eq_skeleton]; unfold k0_part6_skel
  simp only [semSignalWord, semWaitWord, Prog.lift, Prog.bind_op, Prog.bind_ret, Prog.pure_eq_ret]
  refine step_signal m ρ K c 15 (by decide) (by decide) (Fin.ext (k0_dev15_eq c)) ?_
  refine step_barrier m ρ K c ?_
  refine (to_send m ρ K c).trans ?_
  refine step_send m ρ K c 0 (by decide) (Fin.ext k0_dev16_eq) ?_
  refine step_send m ρ K c 1 (by decide) (Fin.ext k0_dev17_eq) ?_
  refine step_send m ρ K c 2 (by decide) (Fin.ext k0_dev18_eq) ?_
  exact done c (H _)

theorem part10 {X : sProp 𝕄} {Q : (Σ' (v302 : IVec S64x1 32) (v321 : IVec S64x1 1), IVec S64x1 32) → sProp 𝕄} (v2 : BitVec 32)
    (H : iprop(SendSt m ρ K c 16 ∗ idxPts m ρ c ∗ X) ⊢ Q ⟨k0_pay14 (F := F) (ask m ρ c), k0_pay15 (F := F) (ask m ρ c), k0_pay16⟩) :
    iprop(SendSt m ρ K c 14 ∗ idxPts m ρ c ∗ X) ⊢ wpc c (k0_part10 (F := F) tM (Memref.isWhole_whole _) iM (Memref.isWhole_whole _) oM (Memref.isWhole_whole _)
      pM (Memref.isWhole_whole _) lM (Memref.isWhole_whole _) cc0_scratch2 cc0_scratch3 cc0_scratch4 cc0_scratch5 c v2) Q := by
  rw [k0_part10_eq_skeleton]; unfold k0_part10_skel
  simp only [semSignalWord, semWaitWord, Prog.lift, Prog.bind_op, Prog.bind_ret, Prog.pure_eq_ret]
  refine step_send m ρ K c 14 (by decide) (Fin.ext k0_dev30_eq) ?_
  refine step_send m ρ K c 15 (by decide) (Fin.ext k0_dev31_eq) ?_
  refine swap.trans (step_ask m ρ c (swap.trans ?_))
  exact done c H

/-- Between the exchanges: the receive cell's own state, and then, all arrived. -/
theorem to_r1 {X : sProp 𝕄} :
    iprop(SendSt m ρ K c 16 ∗ (atPos ER (dmaCell c 16) 0 ∅ 0 ∗ cred (tallyAt (dmaCell c 16) () (16 * N1))) ∗ X)
      ⊢ iprop(RcvSt m ρ K c 16 N1 16 (owe3 c 0) 0 ∗ bigSep (Finset.Ico 0 16) (fun t => cred (tallyAt (dCell c t) () N1)) ∗ X) := by
  unfold SendSt RcvSt
  iintro ⟨⟨#HR, Ho, -, Hc⟩, ⟨Hat, Hcr⟩, HX⟩
  isplitr [Hc HX]
  · isplitr; · iexact HR
    isplitl [Ho]
    · ihave Ho := (Entails.of_eq (show (Ow c (owe2 16 + owe3 c 0) : sProp 𝕄) = Ow c (owe3 c 0) by rw [owe2_done, zero_add])) $$ Ho
      iexact Ho
    isplitl [Hat]
    · iexists ∅
      rw [Nat.zero_mul, bigSep_empty]
      isplitl [Hat]; · iexact Hat
      isplitr; · ipureintro; exact Finset.empty_subset _
      iempintro
    iexact Hcr
  isplitl [Hc]; · iexact Hc
  iexact HX

theorem to_r2 {X : sProp 𝕄} :
    iprop(CopySt m ρ K c 15 ∗ (atPos ER (dmaCell c 33) 0 ∅ 0 ∗ cred (tallyAt (dmaCell c 33) () (15 * N2))) ∗ X)
      ⊢ iprop(RcvSt m ρ K c 33 N2 15 0 0 ∗ bigSep (Finset.Ico 0 15) (fun k => cred (tallyAt (dCell c (17 + k)) () N2)) ∗ X) := by
  unfold CopySt RcvSt
  iintro ⟨⟨#HR, Ho, -, Hc⟩, ⟨Hat, Hcr⟩, HX⟩
  isplitr [Hc HX]
  · isplitr; · iexact HR
    isplitl [Ho]
    · ihave Ho := (Entails.of_eq (show (Ow c (owe3 c 15) : sProp 𝕄) = Ow c 0 by rw [owe3_done])) $$ Ho
      iexact Ho
    isplitl [Hat]
    · iexists ∅
      rw [Nat.zero_mul, bigSep_empty]
      isplitl [Hat]; · iexact Hat
      isplitr; · ipureintro; exact Finset.empty_subset _
      iempintro
    iexact Hcr
  isplitl [Hc]; · iexact Hc
  iexact HX

/-- All packets in: the landing buffer is whole. -/
theorem all_landed {X : sProp 𝕄} :
    iprop((Rec m ρ K ∗ Ow c (owe3 c 0) ∗ atPos ER (dmaCell c 16) 1 ∅ 0
        ∗ bigSep ((rd (F := F) m ρ).duties (dmaCell c 16) 0) (fun d => (rd (F := F) m ρ).payload (dmaCell c 16) 0 d)) ∗ X)
      ⊢ iprop(landPts c (landed m ρ c) ∗ (Rec m ρ K ∗ Ow c (owe3 c 0) ∗ atPos ER (dmaCell c 16) 1 ∅ 0) ∗ X) := by
  iintro ⟨⟨#HR, Ho, Hat, Hp⟩, HX⟩
  ihave Hp := (Entails.of_eq (show bigSep ((rd (F := F) m ρ).duties (dmaCell c 16) 0) (fun d => (rd (F := F) m ρ).payload (dmaCell c 16) 0 d) = landPts c (landed m ρ c) by
    rw [slots_eq, show (rd (F := F) m ρ).duties (dmaCell c 16) 0 = Finset.univ from duties_r1 m ρ c]
    exact bigSep_congr fun d _ => payload_r1 m ρ c d)) $$ Hp
  isplitl [Hp]; · iexact Hp
  isplitl [Ho Hat]
  · isplitr; · iexact HR
    isplitl [Ho]; · iexact Ho
    iexact Hat
  iexact HX

/-- What the second exchange's sends take besides the own chunk. -/
def copyPre : sProp 𝕄 :=
  iprop(bigSep (Finset.Ico 0 15) (fun k => dutyTok ER (r2Cell (peer c (k + 1))) 0 c) ∗ bigSep (Finset.Ico 0 15) (fun k => dutyTok ER (dCell c (17 + k)) 0 (0 : Fin 16))
    ∗ bigSep (Finset.univ.erase c) fun d => iprop(∃ f, chunkPts (F := F) d c fullShare f))
/-- What stays beside them. -/
def kept : sProp 𝕄 :=
  iprop(landPts c (landed m ρ c) ∗ atPos ER (dmaCell c 16) 1 ∅ 0 ∗ chunkPts c c (leftover 15) (result m ρ))

theorem to_copy {X : sProp 𝕄} :
    iprop(chunkPts c c fullShare (result m ρ) ∗ landPts c (landed m ρ c) ∗ (Rec m ρ K ∗ Ow c (owe3 c 0) ∗ atPos ER (dmaCell c 16) 1 ∅ 0) ∗ copyPre (F := F) c ∗ X)
      ⊢ iprop(CopySt m ρ K c 0 ∗ kept m ρ c ∗ X) := by
  unfold CopySt copyPre kept
  iintro ⟨Hc, Hl, ⟨#HR, Ho, Hat⟩, ⟨Ht1, Ht2, Hd⟩, HX⟩
  ihave Hc := (Entails.of_eq (pieces_eq c c (result m ρ) 15)) $$ Hc
  icases Hc with ⟨Hps, Hleft⟩
  ihave Hd := (Entails.of_eq (others_eq' c (fun d => (iprop(∃ f, chunkPts (F := F) d c fullShare f) : sProp 𝕄)))) $$ Hd
  isplitr [Hl Hat Hleft HX]
  · isplitr; · iexact HR
    isplitl [Ho]; · iexact Ho
    isplitl [Ht1 Ht2 Hps Hd]
    · unfold copyRes
      iapply (Entails.of_eq (show iprop(bigSep (Finset.Ico 0 15) (fun k => (dutyTok ER (r2Cell (peer c (k + 1))) 0 c : sProp 𝕄)) ∗ bigSep (Finset.Ico 0 15) (fun k => dutyTok ER (dCell c (17 + k)) 0 (0 : Fin 16))
          ∗ bigSep (Finset.Ico 0 15) (fun k => chunkPts c c (piece k) (result m ρ)) ∗ bigSep (Finset.Ico 0 15) (fun k => iprop(∃ f, chunkPts (F := F) (peer c (k + 1)) c fullShare f)))
        = bigSep (Finset.Ico 0 15) (fun k => iprop(dutyTok ER (r2Cell (peer c (k + 1))) 0 c ∗ dutyTok ER (dCell c (17 + k)) 0 (0 : Fin 16) ∗ chunkPts c c (piece k) (result m ρ)
            ∗ ∃ f, chunkPts (F := F) (peer c (k + 1)) c fullShare f)) by
          rw [bigSep_sep', bigSep_sep', bigSep_sep']))
      isplitl [Ht1]; · iexact Ht1
      isplitl [Ht2]; · iexact Ht2
      isplitl [Hps]; · iexact Hps
      iexact Hd
    · rw [Finset.Ico_self, bigSep_empty]; iempintro
  isplitl [Hl Hat Hleft]
  · isplitl [Hl]; · iexact Hl
    isplitl [Hat]; · iexact Hat
    iexact Hleft
  iexact HX

theorem part15 {X : sProp 𝕄} {Q : (Σ' (v445 : BitVec 32), BitVec 32) → sProp 𝕄} (v2 : BitVec 32) (v356 : FVec F S64x256 .bf16)
    (f : (cc0_stg2_0 : Ref sig .tc).ty.Contents (Elt F))
    (hv : v356 = k0_pay17 (F := F) (k0_pay14 (F := F) (ask m ρ c)) (k0_pay15 (F := F) (ask m ρ c)) k0_pay16)
    (H : ∀ r, iprop(CopySt m ρ K c 1 ∗ kept m ρ c ∗ X) ⊢ Q r) :
    iprop(RcvSt m ρ K c 16 N1 16 (owe3 c 0) 14 ∗ chunkPts c c fullShare f ∗ copyPre (F := F) c ∗ X) ⊢ wpc c (k0_part15 (F := F) tM (Memref.isWhole_whole _) iM (Memref.isWhole_whole _) oM (Memref.isWhole_whole _)
      pM (Memref.isWhole_whole _) lM (Memref.isWhole_whole _) cc0_scratch2 cc0_scratch3 cc0_scratch4 cc0_scratch5 c v2 v356) Q := by
  rw [k0_part15_eq_skeleton]; unfold k0_part15_skel
  simp only [semSignalWord, semWaitWord, Prog.lift, Prog.bind_op, Prog.bind_ret, Prog.pure_eq_ret]
  refine step_r1 m ρ K c 14 (by decide) (by exact wpE_waitDma2_eq 𝒱₀ (c : Thread nD τ) none Set.univ) ?_
  refine step_recv_last m ρ K c 16 N1 16 (owe3 c 0) (above_r1 c) 15 rfl (expect_r1 m ρ c) (by exact wpE_waitDma2_eq 𝒱₀ (c : Thread nD τ) none Set.univ) ?_
  refine (all_landed m ρ K c).trans (step_landed m ρ c ?_)
  refine (show _ ⊢ iprop(chunkPts c c fullShare f ∗ landPts c (landed m ρ c) ∗ (Rec m ρ K ∗ Ow c (owe3 c 0) ∗ atPos ER (dmaCell c 16) 1 ∅ 0) ∗ copyPre (F := F) c ∗ X) from ?_).trans ?_
  · iintro ⟨A, B, C, D, E⟩
    isplitl [C]; · iexact C
    isplitl [A]; · iexact A
    isplitl [B]; · iexact B
    isplitl [D]; · iexact D
    iexact E
  refine step_own c f fun v => step_answer m ρ c f (by rw [hv]; rfl) ?_
  refine (to_copy m ρ K c).trans ?_
  refine step_copy m ρ K c 0 (by decide) (Fin.ext (k0_dev32_eq c)) ?_
  exact done c (H _)

theorem part20 {X : sProp 𝕄} {Q : (Σ' (v585 : BitVec 32) (v602 : BitVec 32), BitVec 32) → sProp 𝕄} (v2 : BitVec 32) (v445 : BitVec 32) (v455 : BitVec 32) (v465 : BitVec 32) (v575 : BitVec 32)
    (H : ∀ r, iprop(RcvSt m ρ K c 33 N2 15 0 2 ∗ bigSep (Finset.Ico 0 15) (fun k => cred (tallyAt (dCell c (17 + k)) () N2)) ∗ X) ⊢ Q r) :
    iprop(CopySt m ρ K c 13 ∗ (atPos ER (dmaCell c 33) 0 ∅ 0 ∗ cred (tallyAt (dmaCell c 33) () (15 * N2))) ∗ X) ⊢ wpc c (k0_part20 (F := F) tM (Memref.isWhole_whole _) iM (Memref.isWhole_whole _) oM (Memref.isWhole_whole _)
      pM (Memref.isWhole_whole _) lM (Memref.isWhole_whole _) cc0_scratch2 cc0_scratch3 cc0_scratch4 cc0_scratch5 c v2 v445 v455 v465 v575) Q := by
  rw [k0_part20_eq_skeleton]; unfold k0_part20_skel
  simp only [semSignalWord, semWaitWord, Prog.lift, Prog.bind_op, Prog.bind_ret, Prog.pure_eq_ret]
  refine step_copy m ρ K c 13 (by decide) (Fin.ext (k0_dev45_eq c)) ?_
  refine step_copy m ρ K c 14 (by decide) (Fin.ext (k0_dev46_eq c)) ?_
  refine (to_r2 m ρ K c).trans ?_
  refine step_r2 m ρ K c 0 (by decide) (by exact wpE_waitDma2_eq 𝒱₀ (c : Thread nD τ) none Set.univ) ?_
  refine step_r2 m ρ K c 1 (by decide) (by exact wpE_waitDma2_eq 𝒱₀ (c : Thread nD τ) none Set.univ) ?_
  exact done c (H _)

/-- What the two families of send waits take. -/
def packPre : sProp 𝕄 := bigSep (Finset.Ico 0 16) fun t => iprop(cred (tallyAt (dCell c t) () N1) ∗ atPos ER (dCell c t) 0 ∅ 0)
def backPre : sProp 𝕄 := bigSep (Finset.Ico 0 15) fun k => iprop(cred (tallyAt (dCell c (17 + k)) () N2) ∗ atPos ER (dCell c (17 + k)) 0 ∅ 0)
/-- The other chunks of the result, all in. -/
def arrived : sProp 𝕄 := iprop(atPos ER (dmaCell c 33) 1 ∅ 0 ∗ bigSep (Finset.univ.erase c) fun d => chunkPts c d fullShare (result m ρ))
def packDone : sProp 𝕄 := bigSep (Finset.Ico 0 16) fun t => iprop(atPos ER (dCell c t) 1 ∅ 0 ∗ rowPts m ρ c t)

theorem to_pack {X : sProp 𝕄} :
    iprop((Rec m ρ K ∗ Ow c 0 ∗ atPos ER (dmaCell c 33) 1 ∅ 0
        ∗ bigSep ((rd (F := F) m ρ).duties (dmaCell c 33) 0) (fun d => (rd (F := F) m ρ).payload (dmaCell c 33) 0 d)) ∗ packPre (F := F) c ∗ X)
      ⊢ iprop(PackBack m ρ K c 0 ∗ arrived m ρ c ∗ X) := by
  unfold PackBack packPre arrived
  iintro ⟨⟨#HR, Ho, Hat, Hp⟩, Hc, HX⟩
  ihave Hp := (Entails.of_eq (show bigSep ((rd (F := F) m ρ).duties (dmaCell c 33) 0) (fun d => (rd (F := F) m ρ).payload (dmaCell c 33) 0 d)
      = bigSep (Finset.univ.erase c) (fun d => chunkPts c d fullShare (result m ρ)) by
    rw [show (rd (F := F) m ρ).duties (dmaCell c 33) 0 = Finset.univ.erase c from duties_r2 m ρ c]
    exact bigSep_congr fun d _ => payload_r2 m ρ c d)) $$ Hp
  isplitr [Hat Hp HX]
  · isplitr; · iexact HR
    isplitl [Ho]; · iexact Ho
    isplitl [Hc]; · iexact Hc
    rw [Finset.Ico_self, bigSep_empty]; iempintro
  isplitl [Hat Hp]
  · isplitl [Hat]; · iexact Hat
    iexact Hp
  iexact HX

theorem to_back {X : sProp 𝕄} :
    iprop(PackBack m ρ K c 16 ∗ backPre (F := F) c ∗ X) ⊢ iprop(CopyBack m ρ K c 0 ∗ packDone m ρ c ∗ X) := by
  unfold PackBack CopyBack backPre packDone
  iintro ⟨⟨#HR, Ho, -, Hd⟩, Hc, HX⟩
  isplitr [Hd HX]
  · isplitr; · iexact HR
    isplitl [Ho]; · iexact Ho
    isplitl [Hc]; · iexact Hc
    rw [Finset.Ico_self, bigSep_empty]; iempintro
  isplitl [Hd]; · iexact Hd
  iexact HX

theorem part23 {X : sProp 𝕄} {Q : (PUnit) → sProp 𝕄} (v650 : BitVec 32) (c0_i32_553 : BitVec 32)
    (H : iprop(PackBack m ρ K c 4 ∗ arrived m ρ c ∗ X) ⊢ Q ⟨⟩) :
    iprop(RcvSt m ρ K c 33 N2 15 0 14 ∗ packPre (F := F) c ∗ X) ⊢ wpc c (k0_part23 (F := F) tM (Memref.isWhole_whole _) iM (Memref.isWhole_whole _) oM (Memref.isWhole_whole _)
      pM (Memref.isWhole_whole _) lM (Memref.isWhole_whole _) cc0_scratch2 cc0_scratch3 cc0_scratch4 cc0_scratch5 c v650 c0_i32_553) Q := by
  rw [k0_part23_eq_skeleton]; unfold k0_part23_skel
  simp only [semSignalWord, semWaitWord, Prog.lift, Prog.bind_op, Prog.bind_ret, Prog.pure_eq_ret]
  refine step_recv_last m ρ K c 33 N2 15 0 Above.zero 14 rfl (expect_r2 m ρ c) (by exact wpE_waitDma2_eq 𝒱₀ (c : Thread nD τ) none Set.univ) ?_
  refine (to_pack m ρ K c).trans ?_
  refine step_pack m ρ K c 0 (by decide) (by exact wpE_waitDma2_eq 𝒱₀ (c : Thread nD τ) none Set.univ) ?_
  refine step_pack m ρ K c 1 (by decide) (by exact wpE_waitDma2_eq 𝒱₀ (c : Thread nD τ) none Set.univ) ?_
  refine step_pack m ρ K c 2 (by decide) (by exact wpE_waitDma2_eq 𝒱₀ (c : Thread nD τ) none Set.univ) ?_
  refine step_pack m ρ K c 3 (by decide) (by exact wpE_waitDma2_eq 𝒱₀ (c : Thread nD τ) none Set.univ) ?_
  exact done c H

theorem part26 {X : sProp 𝕄} {Q : (PUnit) → sProp 𝕄}
    (H : iprop(CopyBack m ρ K c 2 ∗ packDone m ρ c ∗ X) ⊢ Q ⟨⟩) :
    iprop(PackBack m ρ K c 13 ∗ backPre (F := F) c ∗ X) ⊢ wpc c (k0_part26 (F := F) tM (Memref.isWhole_whole _) iM (Memref.isWhole_whole _) oM (Memref.isWhole_whole _)
      pM (Memref.isWhole_whole _) lM (Memref.isWhole_whole _) cc0_scratch2 cc0_scratch3 cc0_scratch4 cc0_scratch5 c) Q := by
  rw [k0_part26_eq_skeleton]; unfold k0_part26_skel
  simp only [semSignalWord, semWaitWord, Prog.lift, Prog.bind_op, Prog.bind_ret, Prog.pure_eq_ret]
  refine step_pack m ρ K c 13 (by decide) (by exact wpE_waitDma2_eq 𝒱₀ (c : Thread nD τ) none Set.univ) ?_
  refine step_pack m ρ K c 14 (by decide) (by exact wpE_waitDma2_eq 𝒱₀ (c : Thread nD τ) none Set.univ) ?_
  refine step_pack m ρ K c 15 (by decide) (by exact wpE_waitDma2_eq 𝒱₀ (c : Thread nD τ) none Set.univ) ?_
  refine (to_back m ρ K c).trans ?_
  refine step_back m ρ K c 0 (by decide) (by exact wpE_waitDma2_eq 𝒱₀ (c : Thread nD τ) none Set.univ) ?_
  refine step_back m ρ K c 1 (by decide) (by exact wpE_waitDma2_eq 𝒱₀ (c : Thread nD τ) none Set.univ) ?_
  exact done c H

end Cert.Lookup

end
-- ==== Proof.Whole.lean ====
/-
# The whole body of one device
-/
module

public import proofs.«01_k».proof.Proof.Body
public import Idealize.ShloMosaic.Lib.Rounds.Family

@[expose] public section

set_option maxRecDepth 20000

noncomputable section

namespace Cert.Lookup

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option (Fin 34) → ℕ) (c : Dev nD)

/-- A run's end, where the view may still be updated. -/
theorem done_upd {α : Type} {P : sProp 𝕄} {a : α} {Q : α → sProp 𝕄} (h : P ⊢ iprop(|={Set.univ}=> Q a)) : P ⊢ wpc c (pure a) Q :=
  h.trans (Entails.of_eq (wp_ret _ _ _ _ _).symm)

/-- Tokens, credits and positions device `c` starts with. -/
def toks : sProp 𝕄 :=
  iprop(bigSep (Finset.Ico 1 16) (fun k => dutyTok ER (barCell (peer c k)) 0 c) ∗ bigSep (Finset.Ico 0 16) (fun t => dutyTok ER (r1Cell (dv t)) 0 c)
    ∗ bigSep (Finset.Ico 0 15) (fun k => dutyTok ER (r2Cell (peer c (k + 1))) 0 c) ∗ bigSep (Finset.Ico 0 16) (fun t => dutyTok ER (dCell c t) 0 (0 : Fin 16))
    ∗ bigSep (Finset.Ico 0 15) (fun k => dutyTok ER (dCell c (17 + k)) 0 (0 : Fin 16)))
def creds : sProp 𝕄 :=
  iprop(cred (tallyAt (barCell c) () 15) ∗ cred (tallyAt (dmaCell c 16) () (16 * N1)) ∗ cred (tallyAt (dmaCell c 33) () (15 * N2)))
def ats : sProp 𝕄 := bigSep Finset.univ fun k : Option (Fin 34) => atPos ER (kcell (c, k)) 0 ∅ 0

def begin : sProp 𝕄 :=
  iprop(Rec m ρ K ∗ Ow c (O₀ c) ∗ (tabPts m ρ c ∗ idxPts m ρ c) ∗ ((∃ f, outPts (F := F) c f) ∗ (∃ f, packPts (F := F) c f) ∗ ∃ f, landPts (F := F) c f)
    ∗ toks (F := F) c ∗ creds (F := F) c ∗ ats (F := F) c)
def ending : sProp 𝕄 :=
  iprop(Ow c 0 ∗ (tabPts m ρ c ∗ idxPts m ρ c) ∗ (outPts c (result m ρ) ∗ (∃ f, packPts (F := F) c f) ∗ ∃ f, landPts (F := F) c f)
    ∗ bigSep Finset.univ fun k : Option (Fin 34) => semVal (kcell (c, k)) 0)

/-- How far each cell's owner gets. -/
def rounds (k : Option (Fin 34)) : ℕ := if k = some 32 then 0 else 1

theorem rounds_end (k : Option (Fin 34)) (r : ℕ) (h : rounds k ≤ r) : (rd (F := F) m ρ).duties (kcell (c, k)) r = ∅ := by
  unfold rounds at h
  split at h
  · subst_vars; rcases Nat.eq_zero_or_pos r with rfl | hr
    · exact duties_idle m ρ c
    · exact duties_later m ρ _ r hr
  · exact duties_later m ρ (kcell (c, k)) r h

theorem close_all {X : sProp 𝕄} :
    iprop(Rec m ρ K ∗ bigSep Finset.univ (fun k : Option (Fin 34) => atPos ER (kcell (c, k)) (rounds k) ∅ 0) ∗ X)
      ⊢ iprop(|={Set.univ}=> ((bigSep Finset.univ fun k : Option (Fin 34) => semVal (kcell (c, k)) 0) ∗ X)) := by
  iintro ⟨#HR, Ha, HX⟩
  imod (Rounds.cells_close ER (rd m ρ) (Finset.univ : Finset (Option (Fin 34))) (fun k => kcell (c, k)) (fun k => K (c, k)) (Es := Set.univ)
    (fun _ _ => Set.mem_univ _) (fun _ _ h => h) rounds (fun k _ r h => rounds_end m ρ c k r h)) $$ [Ha] with Hz
  · iapply (bigSep_with_persistent (S := Finset.univ) (R := Rec m ρ K) (Φ := fun k : Option (Fin 34) => (atPos ER (kcell (c, k)) (rounds k) ∅ 0 : sProp 𝕄))
      (Ψ := fun k => iprop(cellInv ER (rd m ρ) (K (c, k)) (kcell (c, k)) ∗ atPos ER (kcell (c, k)) (rounds k) ∅ 0)) (fun k _ => by
      iintro ⟨#HR, Ha⟩
      isplitr
      · cases k with
        | none => ihave Hr := (rec_bar m ρ K c) $$ HR; icases Hr with ⟨#HI, -⟩; iexact HI
        | some j => ihave Hr := (rec_dma m ρ K c j) $$ HR; icases Hr with ⟨#HI, -⟩; iexact HI
      iexact Ha))
    isplitl []; · iexact HR
    iexact Ha
  imodintro
  isplitl [Hz]; · iexact Hz
  iexact HX

/-- All waits done: the result is whole, the buffers are whole again, and every own cell closes at zero. -/
theorem finish :
    iprop(CopyBack m ρ K c 15 ∗ packDone m ρ c ∗ arrived m ρ c ∗ kept m ρ c ∗ atPos ER (barCell c) 1 ∅ 0 ∗ atPos ER (dmaCell c 32) 0 ∅ 0 ∗ tabPts m ρ c ∗ idxPts m ρ c)
      ⊢ iprop(|={Set.univ}=> ending m ρ c) := by
  unfold CopyBack packDone arrived kept
  iintro ⟨⟨#HR, Ho, -, Hb⟩, Hp, ⟨Ha33, Hch⟩, ⟨Hl, Ha16, Hleft⟩, Hab, Ha32, Ht, Hi⟩
  ihave Hb := (Entails.of_eq (bigSep_sep' (s := Finset.Ico 0 15) (Φ := fun k => atPos ER (dCell c (17 + k)) 1 ∅ 0) (Ψ := fun k => chunkPts c c (piece k) (result m ρ)))) $$ Hb
  icases Hb with ⟨Hb, Hpc⟩
  ihave Hp := (Entails.of_eq (bigSep_sep' (s := Finset.Ico 0 16) (Φ := fun t => atPos ER (dCell c t) 1 ∅ 0) (Ψ := rowPts m ρ c))) $$ Hp
  icases Hp with ⟨Hp, Hrow⟩
  ihave Hown := (Entails.of_eq (pieces_eq c c (result m ρ) 15).symm) $$ [Hpc Hleft]
  · isplitl [Hpc]; · iexact Hpc
    iexact Hleft
  ihave Hout := (Entails.of_eq (show iprop(chunkPts c c fullShare (result m ρ) ∗ bigSep (Finset.univ.erase c) (fun d => chunkPts c d fullShare (result m ρ))) = outPts c (result m ρ) by
    rw [chunks_eq, BI.bigSep_erase (Finset.mem_univ c)]; rfl)) $$ [Hown Hch]
  · isplitl [Hown]; · iexact Hown
    iexact Hch
  ihave Hpk := (Entails.of_eq (rows_eq m ρ c).symm) $$ Hrow
  ihave Hall := (Entails.of_eq (cells_eq (fun k : Option (Fin 34) => (atPos ER (kcell (c, k)) (rounds k) ∅ 0 : sProp 𝕄))).symm) $$ [Hab Ha16 Ha33 Ha32 Hp Hb]
  · isplitl [Hab]; · iexact Hab
    isplitl [Ha16]; · iexact Ha16
    isplitl [Ha33]; · iexact Ha33
    isplitl [Ha32]; · iexact Ha32
    isplitl [Hp]
    · iapply (Entails.of_eq (bigSep_congr (s := Finset.Ico 0 16) (Φ := fun t => (atPos ER (dCell c t) 1 ∅ 0 : sProp 𝕄)) fun t ht => by
        have h := (Finset.mem_Ico.mp ht).2
        have hr : rounds (some ⟨t % 34, Nat.mod_lt _ (by decide)⟩) = 1 := if_neg fun e => by
          have e' := congrArg Fin.val (Option.some.inj e)
          have e'' : t % 34 = 32 := e'
          omega
        rw [hr]))
      iexact Hp
    · iapply (Entails.of_eq (bigSep_congr (s := Finset.Ico 0 15) (Φ := fun k => (atPos ER (dCell c (17 + k)) 1 ∅ 0 : sProp 𝕄)) fun k hk => by
        have h := (Finset.mem_Ico.mp hk).2
        have hr : rounds (some ⟨(17 + k) % 34, Nat.mod_lt _ (by decide)⟩) = 1 := if_neg fun e => by
          have e' := congrArg Fin.val (Option.some.inj e)
          have e'' : (17 + k) % 34 = 32 := e'
          omega
        rw [hr]))
      iexact Hb
  imod (close_all m ρ K c (X := (iprop(emp) : sProp 𝕄))) $$ [Hall] with ⟨Hz, -⟩
  · isplitr; · iexact HR
    isplitl [Hall]; · iexact Hall
    iempintro
  imodintro
  unfold ending
  isplitl [Ho]; · iexact Ho
  isplitl [Ht Hi]
  · isplitl [Ht]; · iexact Ht
    iexact Hi
  isplitl [Hout Hpk Hl]
  · isplitl [Hout]; · iexact Hout
    isplitl [Hpk]; · iexists _; iexact Hpk
    iexists _; iexact Hl
  iexact Hz

/-- What is not touched by the handshake. -/
def aside (fl : (cc0_scratch1 : Ref sig .tc).ty.Contents (Elt F)) (fo : (cc0_stg2_0 : Ref sig .tc).ty.Contents (Elt F)) : sProp 𝕄 :=
  iprop(slotPts c c fl ∗ chunkPts c c fullShare fo
    ∗ bigSep (Finset.Ico 0 16) (fun t => dutyTok ER (r1Cell (dv t)) 0 c)
    ∗ bigSep (Finset.Ico 0 15) (fun k => dutyTok ER (r2Cell (peer c (k + 1))) 0 c) ∗ bigSep (Finset.Ico 0 16) (fun t => dutyTok ER (dCell c t) 0 (0 : Fin 16))
    ∗ bigSep (Finset.Ico 0 15) (fun k => dutyTok ER (dCell c (17 + k)) 0 (0 : Fin 16))
    ∗ creds (F := F) c ∗ ats (F := F) c)

/-- Before anything is done: the buffers lent out are split off. -/
theorem set_out {X : sProp 𝕄} : iprop(begin m ρ K c ∗ X) ⊢ iprop(∃ fp fl fo, tabPts m ρ c ∗ idxPts m ρ c ∗ SigSt m ρ K c 1 ∗ packPts (F := F) c fp ∗ aside c fl fo ∗ X) := by
  unfold begin toks aside SigSt
  iintro ⟨⟨#HR, Ho, ⟨Ht, Hi⟩, ⟨⟨%fo, Hout⟩, ⟨%fp, Hp⟩, ⟨%fl, Hl⟩⟩, ⟨T1, T2, T3, T4, T5⟩, Hc, Ha⟩, HX⟩
  iexists fp; iexists fl; iexists fo
  ihave Hout := (Entails.of_eq (show outPts c fo = iprop(chunkPts c c fullShare fo ∗ bigSep (Finset.univ.erase c) (fun d => chunkPts c d fullShare fo)) by
    rw [chunks_eq, BI.bigSep_erase (Finset.mem_univ c)]; rfl)) $$ Hout
  icases Hout with ⟨Hown, Hout⟩
  ihave Hl := (Entails.of_eq (show landPts c fl = iprop(slotPts c c fl ∗ bigSep (Finset.univ.erase c) (fun d => slotPts c d fl)) by
    rw [slots_eq, BI.bigSep_erase (Finset.mem_univ c)]; rfl)) $$ Hl
  icases Hl with ⟨Hs, Hl⟩
  ihave Hout := (Entails.of_eq (others_eq c (fun d => chunkPts c d fullShare fo))) $$ Hout
  ihave Hl := (Entails.of_eq (others_eq c (fun d => slotPts c d fl))) $$ Hl
  isplitl [Ht]; · iexact Ht
  isplitl [Hi]; · iexact Hi
  isplitl [Ho T1 Hout Hl]
  · isplitr; · iexact HR
    isplitl [Ho]; · iexact Ho
    iapply (show iprop(bigSep (Finset.Ico 1 16) (fun k => (dutyTok ER (barCell (peer c k)) 0 c : sProp 𝕄)) ∗ bigSep (Finset.Ico 1 16) (fun k => slotPts c (peer c k) fl)
        ∗ bigSep (Finset.Ico 1 16) (fun k => chunkPts c (peer c k) fullShare fo)) ⊢ bigSep (Finset.Ico 1 16) (sigRes (F := F) c) by
      rw [← bigSep_sep', ← bigSep_sep']
      refine bigSep_mono fun k _ => ?_
      show iprop(dutyTok ER (barCell (peer c k)) 0 c ∗ slotPts c (peer c k) fl ∗ chunkPts c (peer c k) fullShare fo) ⊢ sigRes (F := F) c k
      unfold sigRes lend
      iintro ⟨A, B, C⟩
      isplitl [A]; · iexact A
      isplitl [B]; · iexists fl; iexact B
      iexists fo; iexact C) $$ [T1 Hout Hl]
    isplitl [T1]; · iexact T1
    isplitl [Hl]; · iexact Hl
    iexact Hout
  isplitl [Hp]; · iexact Hp
  isplitr [HX]
  · isplitl [Hs]; · iexact Hs
    isplitl [Hown]; · iexact Hown
    isplitl [T2]; · iexact T2
    isplitl [T3]; · iexact T3
    isplitl [T4]; · iexact T4
    isplitl [T5]; · iexact T5
    isplitl [Hc]; · iexact Hc
    iexact Ha
  iexact HX

/-- What is not touched by the first exchange's sends. -/
def aside2 (fo : (cc0_stg2_0 : Ref sig .tc).ty.Contents (Elt F)) : sProp 𝕄 :=
  iprop(chunkPts c c fullShare fo
    ∗ bigSep (Finset.Ico 0 15) (fun k => dutyTok ER (r2Cell (peer c (k + 1))) 0 c) ∗ bigSep (Finset.Ico 0 15) (fun k => dutyTok ER (dCell c (17 + k)) 0 (0 : Fin 16))
    ∗ (atPos ER (dmaCell c 16) 0 ∅ 0 ∗ cred (tallyAt (dmaCell c 16) () (16 * N1)))
    ∗ (atPos ER (dmaCell c 33) 0 ∅ 0 ∗ cred (tallyAt (dmaCell c 33) () (15 * N2)))
    ∗ atPos ER (dmaCell c 32) 0 ∅ 0
    ∗ bigSep (Finset.Ico 0 16) (fun t => atPos ER (dCell c t) 0 ∅ 0) ∗ bigSep (Finset.Ico 0 15) (fun k => atPos ER (dCell c (17 + k)) 0 ∅ 0))

theorem before_sends {X : sProp 𝕄} (fl : (cc0_scratch1 : Ref sig .tc).ty.Contents (Elt F)) (fo : (cc0_stg2_0 : Ref sig .tc).ty.Contents (Elt F)) :
    iprop(SigSt m ρ K c 15 ∗ packPts c (packed m ρ c) ∗ aside c fl fo ∗ X) ⊢ iprop(SigSt m ρ K c 15 ∗ barRes (F := F) c ∗ sendPre m ρ c ∗ aside2 c fo ∗ X) := by
  unfold aside aside2 barRes sendPre creds ats
  iintro ⟨Hst, Hp, ⟨Hs, Hown, T2, T3, T4, T5, ⟨C1, C2, C3⟩, Ha⟩, HX⟩
  ihave Ha := (Entails.of_eq (cells_eq (fun k : Option (Fin 34) => (atPos ER (kcell (c, k)) 0 ∅ 0 : sProp 𝕄)))) $$ Ha
  icases Ha with ⟨A0, A16, A33, A32, AS, AB⟩
  isplitl [Hst]; · iexact Hst
  isplitl [C1 A0]
  · isplitl [C1]; · iexact C1
    iexact A0
  isplitl [T2 T4 Hp Hs]
  · isplitl [T2]; · iexact T2
    isplitl [T4]; · iexact T4
    isplitl [Hp]; · iexact Hp
    iexists fl; iexact Hs
  isplitr [HX]
  · isplitl [Hown]; · iexact Hown
    isplitl [T3]; · iexact T3
    isplitl [T5]; · iexact T5
    isplitl [A16 C2]
    · isplitl [A16]; · iexact A16
      iexact C2
    isplitl [A33 C3]
    · isplitl [A33]; · iexact A33
      iexact C3
    isplitl [A32]; · iexact A32
    isplitl [AS]; · iexact AS
    iexact AB
  iexact HX

/-- What is not touched by the waits for the packets, the answer and the second exchange's sends. -/
def aside3 : sProp 𝕄 :=
  iprop(atPos ER (barCell c) 1 ∅ 0 ∗ (atPos ER (dmaCell c 33) 0 ∅ 0 ∗ cred (tallyAt (dmaCell c 33) () (15 * N2)))
    ∗ atPos ER (dmaCell c 32) 0 ∅ 0
    ∗ packPre (F := F) c ∗ bigSep (Finset.Ico 0 15) (fun k => atPos ER (dCell c (17 + k)) 0 ∅ 0))

theorem after_sends {X : sProp 𝕄} (fo : (cc0_stg2_0 : Ref sig .tc).ty.Contents (Elt F)) :
    iprop(SendSt m ρ K c 16 ∗ idxPts m ρ c ∗ borrowed (F := F) c ∗ aside2 c fo ∗ X)
      ⊢ iprop(RcvSt m ρ K c 16 N1 16 (owe3 c 0) 0 ∗ chunkPts c c fullShare fo ∗ copyPre (F := F) c ∗ aside3 (F := F) c ∗ idxPts m ρ c ∗ X) := by
  unfold borrowed aside2 copyPre aside3 packPre
  iintro ⟨Hst, Hi, ⟨A0, Hd⟩, ⟨Hown, T3, T5, H16, H33, A32, AS, AB⟩, HX⟩
  ihave H := (to_r1 m ρ K c (X := (iprop(emp) : sProp 𝕄))) $$ [Hst H16]
  · isplitl [Hst]; · iexact Hst
    isplitl [H16]; · iexact H16
    iempintro
  icases H with ⟨Hst, HC, -⟩
  isplitl [Hst]; · iexact Hst
  isplitl [Hown]; · iexact Hown
  isplitl [T3 T5 Hd]
  · isplitl [T3]; · iexact T3
    isplitl [T5]; · iexact T5
    iexact Hd
  isplitr [Hi HX]
  · isplitl [A0]; · iexact A0
    isplitl [H33]; · iexact H33
    isplitl [A32]; · iexact A32
    isplitl [HC AS]
    · iapply (Entails.of_eq (bigSep_sep' (s := Finset.Ico 0 16) (Φ := fun t => (cred (tallyAt (dCell c t) () N1) : sProp 𝕄)) (Ψ := fun t => atPos ER (dCell c t) 0 ∅ 0)).symm)
      isplitl [HC]; · iexact HC
      iexact AS
    iexact AB
  isplitl [Hi]; · iexact Hi
  iexact HX

theorem after_answer {X : sProp 𝕄} :
    iprop(CopySt m ρ K c 13 ∗ kept m ρ c ∗ aside3 (F := F) c ∗ X)
      ⊢ iprop(CopySt m ρ K c 13 ∗ (atPos ER (dmaCell c 33) 0 ∅ 0 ∗ cred (tallyAt (dmaCell c 33) () (15 * N2)))
        ∗ packPre (F := F) c ∗ bigSep (Finset.Ico 0 15) (fun k => atPos ER (dCell c (17 + k)) 0 ∅ 0) ∗ kept m ρ c ∗ atPos ER (barCell c) 1 ∅ 0 ∗ atPos ER (dmaCell c 32) 0 ∅ 0 ∗ X) := by
  unfold aside3
  iintro ⟨Hst, Hk, ⟨A0, H33, A32, Hpp, AB⟩, HX⟩
  isplitl [Hst]; · iexact Hst
  isplitl [H33]; · iexact H33
  isplitl [Hpp]; · iexact Hpp
  isplitl [AB]; · iexact AB
  isplitl [Hk]; · iexact Hk
  isplitl [A0]; · iexact A0
  isplitl [A32]; · iexact A32
  iexact HX

theorem before_waits {X : sProp 𝕄} :
    iprop(RcvSt m ρ K c 33 N2 15 0 14 ∗ bigSep (Finset.Ico 0 15) (fun k => cred (tallyAt (dCell c (17 + k)) () N2))
        ∗ packPre (F := F) c ∗ bigSep (Finset.Ico 0 15) (fun k => atPos ER (dCell c (17 + k)) 0 ∅ 0) ∗ X)
      ⊢ iprop(RcvSt m ρ K c 33 N2 15 0 14 ∗ packPre (F := F) c ∗ backPre (F := F) c ∗ X) := by
  unfold backPre
  iintro ⟨Hst, HC, Hpp, AB, HX⟩
  isplitl [Hst]; · iexact Hst
  isplitl [Hpp]; · iexact Hpp
  isplitl [HC AB]
  · iapply (Entails.of_eq (bigSep_sep' (s := Finset.Ico 0 15) (Φ := fun k => (cred (tallyAt (dCell c (17 + k)) () N2) : sProp 𝕄)) (Ψ := fun k => atPos ER (dCell c (17 + k)) 0 ∅ 0)).symm)
    isplitl [HC]; · iexact HC
    iexact AB
  iexact HX

set_option maxHeartbeats 2000000 in
theorem run_mid {Q : PUnit → sProp 𝕄} (fp : (cc0_scratch0 : Ref sig .tc).ty.Contents (Elt F)) (fl : (cc0_scratch1 : Ref sig .tc).ty.Contents (Elt F)) (fo : (cc0_stg2_0 : Ref sig .tc).ty.Contents (Elt F)) (Y : sProp 𝕄)
    (H : iprop(ending m ρ c ∗ Y) ⊢ Q ⟨⟩) :
    iprop(tabPts m ρ c ∗ idxPts m ρ c ∗ SigSt m ρ K c 1 ∗ packPts (F := F) c fp ∗ aside c fl fo ∗ Y)
      ⊢ wpc c (cc0_body (F := F) tM (Memref.isWhole_whole _) iM (Memref.isWhole_whole _) oM (Memref.isWhole_whole _)
      pM (Memref.isWhole_whole _) lM (Memref.isWhole_whole _) cc0_scratch2 cc0_scratch3 cc0_scratch4 cc0_scratch5) Q := by
  rw [cc0_body_eq_skeleton]; unfold cc0_body_skel
  refine seq c ?_
  rw [k0_part28_eq_skeleton]; unfold k0_part28_skel
  refine seq c (part1 m ρ c fun v2 => ?_)
  refine seq c (part2 c _ _ _ _ ?_)
  refine (show _ ⊢ iprop(SigSt m ρ K c 1 ∗ packPts (F := F) c fp ∗ (aside c fl fo ∗ idxPts m ρ c ∗ tabPts m ρ c ∗ Y)) from ?_).trans ?_
  · iintro ⟨A, B, C, D, E, G⟩
    isplitl [C]; · iexact C
    isplitl [D]; · iexact D
    isplitl [E]; · iexact E
    isplitl [B]; · iexact B
    isplitl [A]; · iexact A
    iexact G
  refine seq c (part3 m ρ K c _ _ _ _ _ _ fp fun r3 => ?_)
  refine seq c (part4 m ρ K c _ _ fun r4 => ?_)
  refine seq c (part5 m ρ K c _ _ fun r5 => ?_)
  refine (before_sends m ρ K c fl fo).trans ?_
  refine seq c (part6 m ρ K c _ fun r6 => ?_)
  refine seq c (part7 m ρ K c _ _ ?_)
  refine seq c (part8 m ρ K c ?_)
  refine seq c (part9 m ρ K c ?_)
  refine (show _ ⊢ iprop(SendSt m ρ K c 14 ∗ idxPts m ρ c ∗ (borrowed (F := F) c ∗ aside2 c fo ∗ tabPts m ρ c ∗ Y)) from ?_).trans ?_
  · iintro ⟨A, B, C, D, E⟩
    isplitl [A]; · iexact A
    isplitl [D]; · iexact D
    isplitl [B]; · iexact B
    isplitl [C]; · iexact C
    iexact E
  refine seq c (part10 m ρ K c _ ?_)
  refine (after_sends m ρ K c fo).trans ?_
  refine seq c (part11 m ρ K c _ _ _ ?_)
  refine seq c (part12 m ρ K c ?_)
  refine seq c (part13 m ρ K c fun r13 => ?_)
  refine seq c (part14 m ρ K c _ ?_)
  refine seq c (part15 m ρ K c _ _ fo rfl fun r15 => ?_)
  refine seq c (part16 m ρ K c _ _ fun r16 => ?_)
  refine seq c (part17 m ρ K c _ _ fun r17 => ?_)
  refine seq c (part18 m ρ K c _ _ fun r18 => ?_)
  refine seq c (part19 m ρ K c _ _ fun r19 => ?_)
  refine (after_answer m ρ K c).trans ?_
  refine seq c (part20 m ρ K c _ _ _ _ _ fun r20 => ?_)
  refine seq c (part21 m ρ K c _ _ _ _ _ _ _ _ fun r21 => ?_)
  refine seq c (part22 m ρ K c _ _ _ _ _ _ _ _ fun r22 => ?_)
  refine (before_waits m ρ K c).trans ?_
  refine seq c (part23 m ρ K c _ _ ?_)
  refine seq c (part24 m ρ K c ?_)
  refine seq c (part25 m ρ K c ?_)
  refine (show _ ⊢ iprop(PackBack m ρ K c 13 ∗ backPre (F := F) c ∗ (arrived m ρ c ∗ kept m ρ c ∗ atPos ER (barCell c) 1 ∅ 0 ∗ atPos ER (dmaCell c 32) 0 ∅ 0
      ∗ idxPts m ρ c ∗ tabPts m ρ c ∗ Y)) from ?_).trans ?_
  · iintro ⟨A, B, C, D⟩
    isplitl [A]; · iexact A
    isplitl [C]; · iexact C
    isplitl [B]; · iexact B
    iexact D
  refine seq c (part26 m ρ K c ?_)
  refine seq c (part27 m ρ K c ?_)
  simp only [Prog.lift, Prog.bind_op, Prog.bind_ret, Prog.pure_eq_ret]
  refine step_back m ρ K c 9 (by decide) (by exact wpE_waitDma2_eq 𝒱₀ (c : Thread nD τ) none Set.univ) ?_
  refine step_back m ρ K c 10 (by decide) (by exact wpE_waitDma2_eq 𝒱₀ (c : Thread nD τ) none Set.univ) ?_
  refine step_back m ρ K c 11 (by decide) (by exact wpE_waitDma2_eq 𝒱₀ (c : Thread nD τ) none Set.univ) ?_
  refine step_back m ρ K c 12 (by decide) (by exact wpE_waitDma2_eq 𝒱₀ (c : Thread nD τ) none Set.univ) ?_
  refine done c ?_
  refine step_back m ρ K c 13 (by decide) (by exact wpE_waitDma2_eq 𝒱₀ (c : Thread nD τ) none Set.univ) ?_
  refine step_back m ρ K c 14 (by decide) (by exact wpE_waitDma2_eq 𝒱₀ (c : Thread nD τ) none Set.univ) ?_
  refine done_upd c ?_
  iintro ⟨A, B, C, D, E, G, I, J, HY⟩
  imod (finish m ρ K c) $$ [A B C D E G I J] with Hend
  · isplitl [A]; · iexact A
    isplitl [B]; · iexact B
    isplitl [C]; · iexact C
    isplitl [D]; · iexact D
    isplitl [E]; · iexact E
    isplitl [G]; · iexact G
    isplitl [J]; · iexact J
    iexact I
  imodintro
  iapply H
  isplitl [Hend]; · iexact Hend
  iexact HY

end Cert.Lookup

end
-- ==== Proof.Launch.lean ====
/-
# The launch: what every device starts with, and the run of the whole mesh
-/
module

public import proofs.«01_k».proof.Proof.Whole
public import proofs.«01_k».proof.Proof.Gen.KernelIdeal.Points
public import Idealize.ShloMosaic.Lib.Pipeline.CollectiveSegs

@[expose] public section

set_option maxRecDepth 20000

noncomputable section

namespace Cert.Lookup

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Pipeline (Dat Cfg Window BodyObligation cellOf)

/-! ## The region's proof data -/

def start (c : Dev nD) : sProp 𝕄 := iprop((∃ K, Rec m ρ K ∗ toks (F := F) c ∗ ats (F := F) c) ∗ creds (F := F) c)
def Φ₀ (c : Dev nD) : sProp 𝕄 := iprop(start m ρ c ∗ (∃ f, packPts (F := F) c f) ∗ ∃ f, landPts (F := F) c f)
def Φ₁ (c : Dev nD) : sProp 𝕄 :=
  iprop((bigSep Finset.univ fun k : Option (Fin 34) => semVal (kcell (c, k)) 0) ∗ (∃ f, packPts (F := F) c f) ∗ ∃ f, landPts (F := F) c f)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => tb m ρ c
    | ⟨1, _⟩ => ixs m ρ c
    | ⟨2, _⟩ => result m ρ
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ (F := F) c ∗ (dats m ρ 0 c).owesAt () t0_0.succ ∗ stg c cc0_stg0_0 (tb m ρ c) ∗ stg c cc0_stg1_0 (ixs m ρ c) ∗ stg c cc0_stg2_0 (result m ρ))

theorem sound_body (c : Dev nD) :
    bodyPre m ρ c ⊢ wpc c (cc0_body (F := F) tM (Memref.isWhole_whole _) iM (Memref.isWhole_whole _) oM (Memref.isWhole_whole _)
      pM (Memref.isWhole_whole _) lM (Memref.isWhole_whole _) cc0_scratch2 cc0_scratch3 cc0_scratch4 cc0_scratch5) (fun _ => bodyPost m ρ c) := by
  unfold bodyPre Φ₀ start
  iintro ⟨⟨⟨⟨%K, #HR, Ht, Ha⟩, Hc⟩, Hp, Hl⟩, Ho, ⟨%d0, %g0, %hg0, Hx⟩, ⟨%d1, %g1, %hg1, Hi⟩, ⟨%d2, %g2, %hg2, Hout⟩⟩
  have hx : g0 = tb m ρ c := by rw [hg0]; unfold Dat.before; rw [if_pos (fetch0_0 t0_0)]; rfl
  have hi : g1 = ixs m ρ c := by rw [hg1]; unfold Dat.before; rw [if_pos (fetch0_1 t0_0)]; rfl
  subst hx
  subst hi
  unfold Dat.owesAt Pipeline.owesWithin
  icases Ho with ⟨%W, %hW, HO⟩
  rw [show (dats m ρ 0 c).owed t0_0.castSucc = O₀ c from rfl]
  ihave H := (set_out m ρ K c (X := (iprop(emp) : sProp 𝕄))) $$ [HO Hx Hi Hout Hp Hl Ht Hc Ha]
  · unfold begin
    isplitl
    · isplitr; · iexact HR
      isplitl [HO]; · unfold Ow; iexists W; iexact HO
      isplitl [Hx Hi]
      · isplitl [Hx]; · unfold tabPts; iexact Hx
        unfold idxPts; iexact Hi
      isplitl [Hout Hp Hl]
      · isplitl [Hout]; · iexists g2; unfold outPts; iexact Hout
        isplitl [Hp] <;> iassumption
      isplitl [Ht]; · iexact Ht
      isplitl [Hc]; · iexact Hc
      iexact Ha
    iempintro
  icases H with ⟨%fp, %fl, %fo, H⟩
  iapply (run_mid m ρ K c (Q := fun _ => bodyPost m ρ c) fp fl fo (iprop(emp) : sProp 𝕄) (by
    unfold ending bodyPost Φ₁ Dat.owesAt Pipeline.owesWithin
    rw [show (dats m ρ 0 c).owed t0_0.succ = 0 from rfl]
    unfold Ow
    iintro ⟨⟨⟨%W, HO⟩, ⟨Ht, Hi⟩, ⟨Hout, Hp, Hl⟩, Hz⟩, -⟩
    isplitl [Hz Hp Hl]
    · isplitl [Hz]; · iexact Hz
      isplitl [Hp] <;> iassumption
    isplitl [HO]
    · iexists W
      isplitr; · ipureintro; exact fun _ _ => Or.inl trivial
      iexact HO
    isplitl [Ht]
    · iexists _; isplitr; · (ipureintro; rfl)
      unfold tabPts; iexact Ht
    isplitl [Hi]
    · iexists _; isplitr; · (ipureintro; rfl)
      unfold idxPts; iexact Hi
    iexists _; isplitr; · (ipureintro; rfl)
    unfold outPts; iexact Hout))
  iexact H

theorem body_obligation (c : Dev nD) : BodyObligation (dats (F := F) m ρ 0 c) (defs₀ (F := F)) 𝒱₀ () Set.univ := fun t => by
  rw [fin_N0 t]
  rw [bigSep_W0, bigSep_W0]
  simp only [owns_whole]
  show bodyPre m ρ c ⊢ _
  exact sound_body m ρ c

/-! ## The launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Option (Fin 34) → GSem nD τ sig) := by
  rintro ⟨c, k⟩ ⟨c', k'⟩ h
  have h1 : c = c' := congrArg (fun g : GSem nD τ sig => g.1.1) h
  subst h1
  have h2 : csem k = csem k' := congrArg Prod.snd h
  have h3 : k = k' := by
    cases k with
    | none => cases k' with
      | none => rfl
      | some j' => exact absurd h2 (by intro e; cases e)
    | some j => cases k' with
      | none => exact absurd h2 (by intro e; cases e)
      | some j' =>
        have e : qS j = qS j' := SemLoc.dma.inj h2
        have e' : (qS j : Fin 37).val = (qS j' : Fin 37).val := congrArg Fin.val e
        rw [qS_val, qS_val] at e'
        exact congrArg some (Fin.ext (by omega))
  subst h3; rfl
def cellsAll : Finset (GSem nD τ sig) := Finset.univ.map ⟨kcell, kcell_injective⟩

/-- The tokens minted for device `c`, the payer: to each device's handshake and receive cells, and to its own send cells. -/
abbrev tokOf (cji : Dev nD × Fin 5 × Dev nD) : GSem nD τ sig × ℕ × Dev nD := match cji.2.1 with
  | 0 => (barCell cji.2.2, 0, cji.1) | 1 => (r1Cell cji.2.2, 0, cji.1) | 2 => (r2Cell cji.2.2, 0, cji.1)
  | 3 => (dCell cji.1 cji.2.2.val, 0, (0 : Fin 16)) | 4 => (dCell cji.1 (17 + cji.2.2.val), 0, (0 : Fin 16))

/-- Which of the five a token is, read off its semaphore. -/
def kindOf (x : GSem nD τ sig × ℕ × Dev nD) : ℕ := match x.1.2 with
  | .reg _ => 0
  | .dma q => if (q : Fin 37).val = 19 then 1 else if (q : Fin 37).val = 36 then 2 else if (q : Fin 37).val < 19 then 3 else 4
def placeOf (x : GSem nD τ sig × ℕ × Dev nD) : ℕ := match x.1.2 with
  | .reg _ => 0
  | .dma q => (q : Fin 37).val

theorem kindOf_tok (c : Dev nD) (j : Fin 5) (i : Dev nD) : kindOf (tokOf (c, j, i)) = j.val := by
  have hi : i.val < 16 := i.isLt
  fin_cases j
  · rfl
  · rfl
  · rfl
  · show (if 3 + i.val % 34 = 19 then 1 else if 3 + i.val % 34 = 36 then 2 else if 3 + i.val % 34 < 19 then 3 else 4) = 3
    rw [if_neg (by omega), if_neg (by omega), if_pos (by omega)]
  · show (if 3 + (17 + i.val) % 34 = 19 then 1 else if 3 + (17 + i.val) % 34 = 36 then 2 else if 3 + (17 + i.val) % 34 < 19 then 3 else 4) = 4
    rw [if_neg (by omega), if_neg (by omega), if_neg (by omega)]

theorem tokOf_injective : Function.Injective (tokOf : Dev nD × Fin 5 × Dev nD → GSem nD τ sig × ℕ × Dev nD) := by
  rintro ⟨c, j, i⟩ ⟨c', j', i'⟩ h
  have hj : j = j' := Fin.ext (by rw [← kindOf_tok c j i, ← kindOf_tok c' j' i', h])
  subst hj
  have hi : i.val < 16 := i.isLt
  have hi' : i'.val < 16 := i'.isLt
  have hp := congrArg placeOf h
  have hd := congrArg (fun x : GSem nD τ sig × ℕ × Dev nD => x.1.1.1) h
  have he := congrArg (fun x : GSem nD τ sig × ℕ × Dev nD => x.2.2) h
  have : c = c' ∧ i = i' := by
    fin_cases j
    · exact ⟨he, hd⟩
    · exact ⟨he, hd⟩
    · exact ⟨he, hd⟩
    · refine ⟨hd, Fin.ext ?_⟩
      have hp' : 3 + i.val % 34 = 3 + i'.val % 34 := hp
      omega
    · refine ⟨hd, Fin.ext ?_⟩
      have hp' : 3 + (17 + i.val) % 34 = 3 + (17 + i'.val) % 34 := hp
      omega
  rw [this.1, this.2]
def toksAll : Finset (GSem nD τ sig × ℕ × Dev nD) := Finset.univ.map ⟨tokOf, tokOf_injective⟩

def u₀ : UU :=
  (initOf (Pipeline.cells cfgs cellOf_inj) (Pipeline.launchToks cfgs cellOf_inj), initOf cellsAll toksAll)

/-- What the launch deals device `c`. -/
def G (c : Dev nD) : sProp 𝕄 :=
  iprop((bigSep Finset.univ fun k : Option (Fin 34) => roundState ER (rd m ρ) (kcell (c, k)) 0)
    ∗ (bigSep Finset.univ fun k : Option (Fin 34) => iprop(atPos ER (kcell (c, k)) 0 ∅ 0 ∗ reached ER (kcell (c, k)) 0)) ∗ toks (F := F) c)
/-- What is made of it once every cell's invariant is allocated. -/
def G' (c : Dev nD) : sProp 𝕄 := iprop(∃ K, bigSep Finset.univ (record m ρ K) ∗ toks (F := F) c ∗ ats (F := F) c)

omit [FloatOps F] in
theorem fin5 (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ

omit [FloatOps F] in
theorem drop_last (Φ : ℕ → sProp 𝕄) : bigSep (Finset.Ico 0 16) Φ ⊢ bigSep (Finset.Ico 0 15) Φ := by
  rw [show Finset.Ico 0 16 = insert 15 (Finset.Ico 0 15) from by decide, bigSep_insert (by decide)]
  exact sep_elim_right

omit [FloatOps F] in
/-- The tokens as minted are those the body starts with, and some that are never used. -/
theorem deal (c : Dev nD) :
    (bigSep Finset.univ fun ji : Fin 5 × Dev nD => (dutyTok ER (tokOf (c, ji)).1 (tokOf (c, ji)).2.1 (tokOf (c, ji)).2.2 : sProp 𝕄)) ⊢ toks (F := F) c := by
  rw [bigSep_univ_prod, fin5]
  unfold toks
  refine sep_mono ?_ (sep_mono ?_ (sep_mono ?_ (sep_mono ?_ ?_)))
  · show (bigSep Finset.univ fun d : Dev nD => (dutyTok ER (barCell d) 0 c : sProp 𝕄)) ⊢ _
    rw [BI.bigSep_erase (Finset.mem_univ c), others_eq]
    exact sep_elim_right
  · show (bigSep Finset.univ fun d : Dev nD => (dutyTok ER (r1Cell d) 0 c : sProp 𝕄)) ⊢ _
    rw [all_eq]
  · show (bigSep Finset.univ fun d : Dev nD => (dutyTok ER (r2Cell d) 0 c : sProp 𝕄)) ⊢ _
    rw [BI.bigSep_erase (Finset.mem_univ c), others_eq']
    exact sep_elim_right
  · show (bigSep Finset.univ fun d : Dev nD => (dutyTok ER (dCell c d.val) 0 (0 : Fin 16) : sProp 𝕄)) ⊢ _
    rw [all_eq]
    exact Entails.of_eq (bigSep_congr fun t ht => by rw [dv_val (Finset.mem_Ico.mp ht).2])
  · show (bigSep Finset.univ fun d : Dev nD => (dutyTok ER (dCell c (17 + d.val)) 0 (0 : Fin 16) : sProp 𝕄)) ⊢ _
    rw [all_eq]
    refine (drop_last _).trans ?_
    exact Entails.of_eq (bigSep_congr fun t ht => by rw [dv_val (Nat.lt_succ_of_lt (Finset.mem_Ico.mp ht).2)])

theorem fund_all : BI.own (ER (initOf cellsAll toksAll)) ⊢ (|==> bigSep Finset.univ (G m ρ) : sProp 𝕄) := by
  have hX (Φ : GSem nD τ sig → sProp 𝕄) : bigSep cellsAll Φ = bigSep Finset.univ fun c : Dev nD => bigSep Finset.univ fun k : Option (Fin 34) => Φ (kcell (c, k)) := by
    unfold cellsAll; rw [bigSep_map, bigSep_univ_prod]; rfl
  have hT : bigSep toksAll (fun x => (dutyTok ER x.1 x.2.1 x.2.2 : sProp 𝕄)) ⊢ bigSep Finset.univ fun c : Dev nD => toks (F := F) c := by
    unfold toksAll; rw [bigSep_map, bigSep_univ_prod]
    exact bigSep_mono fun c _ => deal c
  iintro HX
  imod (Rounds.fund ER (rd m ρ) cellsAll toksAll) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

omit [FloatOps F] in
theorem split_none (Φ : Option (Fin 34) → sProp 𝕄) : bigSep Finset.univ Φ = iprop(Φ none ∗ bigSep Finset.univ fun j : Fin 34 => Φ (some j)) := by
  rw [show (Finset.univ : Finset (Option (Fin 34))) = insert none (Finset.univ.map Function.Embedding.some) from by decide, bigSep_insert (by decide), bigSep_map]
  rfl

omit [FloatOps F] in
theorem unscoped_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems_eq (c : Dev nD) :
    iprop(unscopedSems0 c ∗ Pipeline.ownSems0 (Ix := Unit) (Name := ℕ) (U := UU) (Lvl := ℕ) (Val := Elt F) (τ := τ) osem c)
      = (bigSep Finset.univ fun k : Option (Fin 34) => semVal (kcell (c, k)) 0 : sProp 𝕄) := by
  rw [unscoped_eq, split_none]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks (F := F) c) := by
  unfold G
  iintro ⟨Hos, Hus, Hst, Hat, Htok⟩
  ihave Hv := (Entails.of_eq (sems_eq (F := F) c)) $$ [Hos Hus]
  · isplitl [Hus] <;> iassumption
  imod (show iprop((bigSep Finset.univ fun k : Option (Fin 34) => semVal (kcell (c, k)) 0) ∗ bigSep Finset.univ fun k : Option (Fin 34) => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' m ρ) := by
  rw [bigSep_sep', bigSep_sep', ← bigSep_univ_prod (fun ck : Dev nD × Option (Fin 34) => iprop(∃ κ : ℕ, cellInv ER (rd m ρ) κ (kcell ck))),
    bigSep_congr (s := Finset.univ) (fun (c : Dev nD) _ => bigSep_sep' Finset.univ (fun k : Option (Fin 34) => (atPos ER (kcell (c, k)) 0 ∅ 0 : sProp 𝕄)) (fun k => reached ER (kcell (c, k)) 0)),
    bigSep_sep', ← bigSep_univ_prod (fun ck : Dev nD × Option (Fin 34) => (reached ER (kcell ck) 0 : sProp 𝕄))]
  iintro ⟨HI, ⟨Hat, #HR⟩, Htok⟩
  ihave HK := (BI.bigSep_exists_pi Finset.univ (fun (ck : Dev nD × Option (Fin 34)) (κ : ℕ) => (cellInv ER (rd m ρ) κ (kcell ck) : sProp 𝕄))) $$ HI
  icases HK with ⟨%K, #HI⟩
  iapply (bigSep_with_persistent (S := Finset.univ) (R := bigSep Finset.univ (record m ρ K)) (Φ := fun c => iprop(toks (F := F) c ∗ ats (F := F) c)) (Ψ := G' m ρ) fun c _ => by
    unfold G'
    iintro ⟨#H, Ht, Ha⟩
    iexists K
    isplitr; · iexact H
    isplitl [Ht] <;> iassumption)
  isplitr
  · iapply (Entails.of_eq (show iprop((bigSep Finset.univ fun ck : Dev nD × Option (Fin 34) => (cellInv ER (rd m ρ) (K ck) (kcell ck) : sProp 𝕄)) ∗ bigSep Finset.univ fun ck : Dev nD × Option (Fin 34) => reached ER (kcell ck) 0)
      = bigSep Finset.univ (record m ρ K) from (bigSep_sep' ..).symm))
    isplitl; · iexact HI
    iexact HR
  · iapply (Entails.of_eq (bigSep_sep' Finset.univ (fun c : Dev nD => toks (F := F) c) (fun c => ats (F := F) c)).symm)
    isplitl [Htok]; · iexact Htok
    iexact Hat

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### What the devices owe a cell, all together -/

theorem bar_iff {a b : Dev nD} : barCell a = barCell b ↔ a = b := ⟨fun h => congrArg (fun g : GSem nD τ sig => g.1.1) h, fun h => h ▸ rfl⟩
theorem dma_iff {a b : Dev nD} {j : Fin 34} : dmaCell a j = dmaCell b j ↔ a = b := ⟨fun h => congrArg (fun g : GSem nD τ sig => g.1.1) h, fun h => h ▸ rfl⟩

theorem sum_tallies (S : Finset ℕ) (g : ℕ → GSem nD τ sig) (A : ℕ) (x : GSem nD τ sig) (P : ℕ → Prop) [DecidablePred P] (hP : ∀ k, x = g k ↔ P k) :
    (∑ k ∈ S, tallyAt (g k) () A : CellTallies nD τ sig Unit) x () = (∑ k ∈ S, if P k then 1 else 0) * A := by
  rw [Finset.sum_apply, Finsupp.finsetSum_apply, Finset.sum_mul]
  refine Finset.sum_congr rfl fun k _ => ?_
  rw [tallyAt_apply]
  by_cases h : P k
  · rw [if_pos ⟨(hP k).mpr h, rfl⟩, if_pos h, one_mul]
  · rw [if_neg fun h' => h ((hP k).mp h'.1), if_neg h, zero_mul]

theorem sum_tallies_none (S : Finset ℕ) (g : ℕ → GSem nD τ sig) (A : ℕ) (x : GSem nD τ sig) (h : ∀ k, x ≠ g k) :
    (∑ k ∈ S, tallyAt (g k) () A : CellTallies nD τ sig Unit) x () = 0 := by
  rw [sum_tallies S g A x (fun _ => False) (fun k => ⟨h k, False.elim⟩)]
  simp

theorem bar_ne {a b : Dev nD} {j : Fin 34} : barCell a ≠ dmaCell b j := fun h => by have e := congrArg Prod.snd h; cases e
theorem r1_ne_r2 {a b : Dev nD} : r1Cell a ≠ r2Cell b := fun h => by
  have e : qS 16 = qS 33 := SemLoc.dma.inj (congrArg Prod.snd h)
  exact absurd (congrArg (fun q : DmaSem sig => (q : Fin 37).val) e) (by decide)

theorem owed_bar (d c : Dev nD) : O₀ d (barCell c) () = (∑ k ∈ Finset.Ico 1 16, if c = peer d k then 1 else 0) * 1 := by
  unfold O₀ owe1 owe2 owe3
  rw [Pi.add_apply, Finsupp.add_apply, Pi.add_apply, Finsupp.add_apply, sum_tallies _ _ _ _ (fun k => c = peer d k) (fun k => bar_iff),
    sum_tallies_none _ _ _ _ (fun k => bar_ne), sum_tallies_none _ _ _ _ (fun k => bar_ne), Nat.add_zero]
theorem owed_r1 (d c : Dev nD) : O₀ d (r1Cell c) () = (∑ k ∈ Finset.Ico 0 16, if c = dv k then 1 else 0) * N1 := by
  unfold O₀ owe1 owe2 owe3
  rw [Pi.add_apply, Finsupp.add_apply, Pi.add_apply, Finsupp.add_apply, sum_tallies _ _ _ _ (fun k => c = dv k) (fun k => dma_iff),
    sum_tallies_none _ _ _ _ (fun k => bar_ne.symm), sum_tallies_none _ _ _ _ (fun k => r1_ne_r2), Nat.zero_add, Nat.add_zero]
theorem owed_r2 (d c : Dev nD) : O₀ d (r2Cell c) () = (∑ k ∈ Finset.Ico 0 15, if c = peer d (k + 1) then 1 else 0) * N2 := by
  unfold O₀ owe1 owe2 owe3
  rw [Pi.add_apply, Finsupp.add_apply, Pi.add_apply, Finsupp.add_apply, sum_tallies _ _ _ _ (fun k => c = peer d (k + 1)) (fun k => dma_iff),
    sum_tallies_none _ _ _ _ (fun k => bar_ne.symm), sum_tallies_none _ _ _ _ (fun k => r1_ne_r2.symm), Nat.zero_add, Nat.zero_add]

theorem launch_at (g : GSem nD τ sig) (c : Dev nD) (sm : SemLoc sig) (hg : g = ((c : Thread nD τ), sm)) (n : ℕ) (h : ∑ d : Dev nD, O₀ d g () = n) :
    tallyOn g (launchCredit (Pipeline.owing O₀) 0 g) = (tallyAt g () n : CellTallies nD τ sig Unit) := by
  subst hg
  unfold tallyAt; refine congrArg _ (Finsupp.ext fun u => ?_); cases u
  rw [Pipeline.launchCredit_owing, Finsupp.single_eq_same, h]

theorem count_bar (c : Dev nD) : ∑ d : Dev nD, (∑ k ∈ Finset.Ico 1 16, if c = peer d k then 1 else 0) = 15 := by
  revert c; decide +kernel
theorem count_r1 (c : Dev nD) : ∑ d : Dev nD, (∑ k ∈ Finset.Ico 0 16, if c = dv k then 1 else 0) = 16 := by
  revert c; decide +kernel
theorem count_r2 (c : Dev nD) : ∑ d : Dev nD, (∑ k ∈ Finset.Ico 0 15, if c = peer d (k + 1) then 1 else 0) = 15 := by
  revert c; decide +kernel

omit [FloatOps F] in
theorem creds_intro (c : Dev nD) : (Pipeline.launchCred O₀ c : sProp 𝕄) ⊢ creds (F := F) c := by
  unfold Pipeline.launchCred creds
  have h0 : ∑ d : Dev nD, O₀ d (barCell c) () = 15 := by
    rw [Finset.sum_congr rfl fun d _ => owed_bar d c, ← Finset.sum_mul, count_bar, Nat.mul_one]
  have h1 : ∑ d : Dev nD, O₀ d (r1Cell c) () = 16 * N1 := by
    rw [Finset.sum_congr rfl fun d _ => owed_r1 d c, ← Finset.sum_mul, count_r1]
  have h2 : ∑ d : Dev nD, O₀ d (r2Cell c) () = 15 * N2 := by
    rw [Finset.sum_congr rfl fun d _ => owed_r2 d c, ← Finset.sum_mul, count_r2]
  rw [bigSep_univ_at _ (SemLoc.reg barS), launch_at (barCell c) c _ rfl 15 h0]
  refine sep_mono_right ?_
  rw [BI.bigSep_erase (i := SemLoc.dma (qS 16)) (Finset.mem_erase.mpr ⟨(fun e => by cases e), Finset.mem_univ _⟩)]
  refine BI.sep_mono ?_ ?_
  · rw [← launch_at (dmaCell c 16) c _ rfl _ h1]; exact BI.Entails.refl _
  · rw [← launch_at (dmaCell c 33) c _ rfl _ h2]
    exact bigSep_elim (i := SemLoc.dma (qS 33)) (Finset.mem_erase.mpr ⟨(fun e => absurd (SemLoc.dma.inj e) (by decide)), Finset.mem_erase.mpr ⟨(fun e => by cases e), Finset.mem_univ _⟩⟩)

/-! ### The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, #Hlev, Hcr, -, HG⟩
  ihave Hc := (creds_intro (F := F) c) $$ Hcr
  imodintro
  unfold start G' Rec
  isplitl
  · isplitl [HG]
    · icases HG with ⟨%K, #HI, Ht, Ha⟩
      iexists K
      isplitr
      · isplitr; · iexact HI
        iexact Hlev
      isplitl [Ht] <;> iassumption
    iexact Hc
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ packPts landPts
  iintro ⟨Hs, -, Hp, Hl⟩
  isplitl [Hs]; · iexact Hs
  isplitl [Hp]; · iexact Hp
  iexact Hl

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁ packPts landPts
  rw [← sems_eq]
  iintro ⟨⟨Hu, Ho⟩, Hp, Hl⟩
  isplitl [Hu]; · iexact Hu
  isplitl [Ho]; · iexact Ho
  isplitl [Hp]; · iexact Hp
  iexact Hl

theorem waits (c : Dev nD) : (levAts L lv : sProp 𝕄) ⊢ Pipeline.cellsWaits cfgs (dats m ρ) () 0 c :=
  Pipeline.cellsWaits_intro cfgs (dats m ρ) () 0 c fun w s t =>
    mayWait c _ _ (by
      rw [show lv ((c : Thread nD τ), SemLoc.dma ((cfg0.win w).sem s)) () = 0 by fin_cases w <;> fin_cases s <;> rfl]
      rcases t with ⟨_ | _, ht⟩
      · exact above_O₀ c
      · exact Above.zero)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays hold what they held. -/
theorem final_table (c : Dev nD) : finalA m ρ c (0 : Fin 3) = m ((c : Thread nD τ).loc main_arg0) :=
  (dats (F := F) m ρ 0 c).arrAt_in (0 : Fin 3) rfl _
theorem final_idx (c : Dev nD) : finalA m ρ c (1 : Fin 3) = m ((c : Thread nD τ).loc main_arg1) :=
  (dats (F := F) m ρ 0 c).arrAt_in (1 : Fin 3) rfl _

end Cert.Lookup

end
-- ==== Proof.Counting.lean ====
/-
# Counting the requests

The kernel never sorts. Device `d` gives each index word it owns a rank, the number of owned words before it, and
keeps the word of rank `r` in row `r`. Among the words of one chunk of sixty-four that one device owns it gives each a
place, the number of such words before it. This module has the two counts and what makes them addresses: each is
strictly increasing along the words it counts, and counting rows gives the same place as counting words.
-/
module

public import Idealize.ShloMosaic.Lib.Pointwise

@[expose] public section

noncomputable section

namespace Cert.Lookup

/-- The index words as numbers. -/
abbrev Words : Type := Fin 1024 → ℕ

variable (w : Words) (d : ℕ)

/-- How many words before `n` device `d` owns. -/
def rk (n : Fin 1024) : ℕ := (Finset.univ.filter fun x : Fin 1024 => x < n ∧ w x / 4096 = d).card

/-- How many words before `n`, in its chunk, have its owner. -/
def place (n : Fin 1024) : ℕ :=
  (Finset.univ.filter fun x : Fin 1024 => x < n ∧ x.val / 64 = n.val / 64 ∧ w x / 4096 = w n / 4096).card

/-- What the precondition says of the words. -/
structure Served : Prop where
  inTable : ∀ n, w n < 65536
  fewOwned : ∀ d : ℕ, d < 16 → (Finset.univ.filter fun x : Fin 1024 => w x / 4096 = d).card ≤ 128
  fewAsked : ∀ t d : ℕ, t < 16 → d < 16 →
    (Finset.univ.filter fun x : Fin 1024 => x.val / 64 = t ∧ w x / 4096 = d).card ≤ 16

variable {w d}

theorem rk_lt_rk {a b : Fin 1024} (h : a < b) (ha : w a / 4096 = d) : rk w d a < rk w d b := by
  refine Finset.card_lt_card (Finset.ssubset_iff_subset_ne.mpr ⟨?_, ?_⟩)
  · intro x hx
    simp only [Finset.mem_filter, Finset.mem_univ, true_and] at hx ⊢
    exact ⟨lt_trans hx.1 h, hx.2⟩
  · intro e
    have hm : a ∈ Finset.univ.filter fun x : Fin 1024 => x < b ∧ w x / 4096 = d := by
      simp only [Finset.mem_filter, Finset.mem_univ, true_and]; exact ⟨h, ha⟩
    rw [← e] at hm
    simp only [Finset.mem_filter, Finset.mem_univ, true_and] at hm
    exact absurd hm.1 (lt_irrefl _)

theorem rk_inj {a b : Fin 1024} (ha : w a / 4096 = d) (hb : w b / 4096 = d) (e : rk w d a = rk w d b) : a = b := by
  rcases lt_trichotomy a b with h | h | h
  · exact absurd (rk_lt_rk h ha) (by omega)
  · exact h
  · exact absurd (rk_lt_rk h hb) (by omega)

theorem rk_lt_iff {a b : Fin 1024} (ha : w a / 4096 = d) (hb : w b / 4096 = d) : rk w d a < rk w d b ↔ a < b := by
  constructor
  · intro h
    rcases lt_trichotomy a b with h' | h' | h'
    · exact h'
    · subst h'; exact absurd h (lt_irrefl _)
    · exact absurd (rk_lt_rk h' hb) (by omega)
  · intro h; exact rk_lt_rk h ha

theorem rk_le (n : Fin 1024) : rk w d n ≤ 1024 :=
  (Finset.card_le_univ _).trans (by simp)

theorem Served.owner_lt (hs : Served w) (n : Fin 1024) : w n / 4096 < 16 := by
  have := hs.inTable n; omega

theorem Served.rk_lt (hs : Served w) (n : Fin 1024) : rk w (w n / 4096) n < 128 := by
  refine lt_of_lt_of_le (Finset.card_lt_card (Finset.ssubset_iff_subset_ne.mpr ⟨?_, ?_⟩))
    (hs.fewOwned (w n / 4096) (hs.owner_lt n))
  · intro x hx
    simp only [Finset.mem_filter, Finset.mem_univ, true_and] at hx ⊢
    exact hx.2
  · intro e
    have hm : n ∈ Finset.univ.filter fun x : Fin 1024 => w x / 4096 = w n / 4096 := by
      simp only [Finset.mem_filter, Finset.mem_univ, true_and]
    rw [← e] at hm
    simp only [Finset.mem_filter, Finset.mem_univ, true_and] at hm
    exact absurd hm.1 (lt_irrefl _)

theorem Served.place_lt (hs : Served w) (n : Fin 1024) : place w n < 16 := by
  refine lt_of_lt_of_le (Finset.card_lt_card (Finset.ssubset_iff_subset_ne.mpr ⟨?_, ?_⟩))
    (hs.fewAsked (n.val / 64) (w n / 4096) (by omega) (hs.owner_lt n))
  · intro x hx
    simp only [Finset.mem_filter, Finset.mem_univ, true_and] at hx ⊢
    exact hx.2
  · intro e
    have hm : n ∈ Finset.univ.filter fun x : Fin 1024 => x.val / 64 = n.val / 64 ∧ w x / 4096 = w n / 4096 := by
      simp only [Finset.mem_filter, Finset.mem_univ, true_and, and_self]
    rw [← e] at hm
    simp only [Finset.mem_filter, Finset.mem_univ, true_and] at hm
    exact absurd hm.1 (lt_irrefl _)

theorem place_lt_place {a b : Fin 1024} (h : a < b) (ht : a.val / 64 = b.val / 64)
    (ho : w a / 4096 = w b / 4096) : place w a < place w b := by
  refine Finset.card_lt_card (Finset.ssubset_iff_subset_ne.mpr ⟨?_, ?_⟩)
  · intro x hx
    simp only [Finset.mem_filter, Finset.mem_univ, true_and] at hx ⊢
    exact ⟨lt_trans hx.1 h, hx.2.1.trans ht, hx.2.2.trans ho⟩
  · intro e
    have hm : a ∈ Finset.univ.filter fun x : Fin 1024 =>
        x < b ∧ x.val / 64 = b.val / 64 ∧ w x / 4096 = w b / 4096 := by
      simp only [Finset.mem_filter, Finset.mem_univ, true_and]; exact ⟨h, ht, ho⟩
    rw [← e] at hm
    simp only [Finset.mem_filter, Finset.mem_univ, true_and] at hm
    exact absurd hm.1 (lt_irrefl _)

theorem place_inj {a b : Fin 1024} (ht : a.val / 64 = b.val / 64) (ho : w a / 4096 = w b / 4096)
    (e : place w a = place w b) : a = b := by
  rcases lt_trichotomy a b with h | h | h
  · exact absurd (place_lt_place h ht ho) (by omega)
  · exact h
  · exact absurd (place_lt_place h ht.symm ho.symm) (by omega)

/-! ## The rows of device `d` -/

variable (w d)

/-- Row `r` keeps word `n`. -/
def Keeps (r : ℕ) (n : Fin 1024) : Prop := r = rk w d n ∧ w n / 4096 = d

instance (r : ℕ) (n : Fin 1024) : Decidable (Keeps w d r n) := by unfold Keeps; infer_instance

/-- Row `r` keeps some word. -/
def Used (r : ℕ) : Prop := ∃ n, Keeps w d r n

noncomputable instance (r : ℕ) : Decidable (Used w d r) := Classical.propDecidable _

open Classical in
/-- The word row `r` keeps; zero where it keeps none. -/
def wordOf (r : ℕ) : Fin 1024 := if h : Used w d r then h.choose else 0

/-- How many rows before `r` keep a word of the same chunk. -/
def rowPlace (r : Fin 128) : ℕ :=
  (Finset.univ.filter fun x : Fin 128 => (Used w d r ∧ Used w d x ∧
    (wordOf w d r).val / 64 = (wordOf w d x).val / 64) ∧ x < r).card

variable {w d}

theorem keeps_unique {r : ℕ} {a b : Fin 1024} (ha : Keeps w d r a) (hb : Keeps w d r b) : a = b :=
  rk_inj ha.2 hb.2 (ha.1.symm.trans hb.1)

theorem keeps_kept {r : ℕ} (h : Used w d r) : Keeps w d r (wordOf w d r) := by
  unfold wordOf; rw [dif_pos h]; exact h.choose_spec

theorem kept_eq {r : ℕ} {n : Fin 1024} (h : Keeps w d r n) : wordOf w d r = n :=
  keeps_unique (keeps_kept ⟨n, h⟩) h

theorem keeps_iff {r : ℕ} (h : Used w d r) (n : Fin 1024) : Keeps w d r n ↔ n = wordOf w d r :=
  ⟨fun hn => (kept_eq hn).symm, fun e => e ▸ keeps_kept h⟩

theorem kept_of_not {r : ℕ} (h : ¬ Used w d r) : wordOf w d r = 0 := by unfold wordOf; rw [dif_neg h]

theorem rowPlace_le (r : Fin 128) : rowPlace w d r ≤ 128 := (Finset.card_le_univ _).trans (by simp)

/-- Counting rows gives the place of the word. -/
theorem rowPlace_eq {r : Fin 128} {n : Fin 1024} (h : Keeps w d r n) : rowPlace w d r = place w n := by
  have hu : Used w d r := ⟨n, h⟩
  have hk := kept_eq h
  unfold rowPlace place
  refine Finset.card_bij (fun x _ => wordOf w d x) ?_ ?_ ?_
  · intro x hx
    simp only [Finset.mem_filter, Finset.mem_univ, true_and] at hx ⊢
    obtain ⟨⟨_, hx1, hx2⟩, hx3⟩ := hx
    have hxk := keeps_kept hx1
    rw [hk] at hx2
    refine ⟨(rk_lt_iff hxk.2 h.2).mp ?_, hx2.symm, hxk.2.trans h.2.symm⟩
    rw [← hxk.1, ← h.1]; exact hx3
  · intro a ha b hb e
    simp only [Finset.mem_filter, Finset.mem_univ, true_and] at ha hb
    have h1 := keeps_kept ha.1.2.1
    have h2 := keeps_kept hb.1.2.1
    apply Fin.ext
    rw [h1.1, h2.1, e]
  · intro y hy
    simp only [Finset.mem_filter, Finset.mem_univ, true_and] at hy
    obtain ⟨hy1, hy2, hy3⟩ := hy
    have hyd : w y / 4096 = d := hy3.trans h.2
    have hlt : rk w d y < rk w d n := rk_lt_rk hy1 hyd
    have hr : rk w d n < 128 := by rw [← h.1]; exact r.isLt
    have hky : Keeps w d (rk w d y) y := ⟨rfl, hyd⟩
    refine ⟨⟨rk w d y, by omega⟩, ?_, kept_eq hky⟩
    simp only [Finset.mem_filter, Finset.mem_univ, true_and]
    refine ⟨⟨hu, ⟨y, hky⟩, ?_⟩, ?_⟩
    · rw [hk, kept_eq hky, hy2]
    · show rk w d y < r.val; rw [h.1]; exact hlt

/-- Where two rows' words, of the same device, are meant for the same place, the rows are one. -/
theorem row_unique {r r' : Fin 128} {n : Fin 1024} (h : Keeps w d r n) (hu : Used w d r')
    (hp : rowPlace w d r' < 16) (hq : place w n < 16)
    (e : (wordOf w d r').val / 64 * 16 + rowPlace w d r' = 16 * (n.val / 64) + place w n) : r' = r := by
  have hk := keeps_kept hu
  have e1 := rowPlace_eq hk
  have ht : (wordOf w d r').val / 64 = n.val / 64 := by omega
  have hpl : place w (wordOf w d r') = place w n := by omega
  have := place_inj ht (hk.2.trans h.2.symm) hpl
  apply Fin.ext
  rw [hk.1, this, ← h.1]

/-- Counting along one chunk gives the place of the word. -/
theorem chunk_place (t : ℕ) (ht : t < 16) (j : Fin 64) (n : Fin 1024) (hn : n.val = 64 * t + j.val)
    (v : Fin 64 → ℕ) (hv : ∀ (x : Fin 64) (y : Fin 1024), y.val = 64 * t + x.val → v x = w y) :
    (Finset.univ.filter fun x : Fin 64 => v j / 4096 = v x / 4096 ∧ x < j).card = place w n := by
  unfold place
  refine Finset.card_bij (fun x _ => (⟨64 * t + x.val, by omega⟩ : Fin 1024)) ?_ ?_ ?_
  · intro x hx
    simp only [Finset.mem_filter, Finset.mem_univ, true_and] at hx ⊢
    have h2 : x.val < j.val := hx.2
    refine ⟨?_, ?_, ?_⟩
    · show 64 * t + x.val < n.val; omega
    · omega
    · rw [← hv x ⟨64 * t + x.val, by omega⟩ rfl, ← hv j n hn]; exact hx.1.symm
  · intro a _ b _ e
    have := congrArg Fin.val e
    simp only at this
    apply Fin.ext; omega
  · intro y hy
    simp only [Finset.mem_filter, Finset.mem_univ, true_and] at hy
    obtain ⟨hy1, hy2, hy3⟩ := hy
    have hy1' : y.val < n.val := hy1
    refine ⟨⟨y.val - 64 * t, by omega⟩, ?_, ?_⟩
    · simp only [Finset.mem_filter, Finset.mem_univ, true_and]
      refine ⟨?_, ?_⟩
      · rw [hv j n hn, hv ⟨y.val - 64 * t, by omega⟩ y (by show y.val = 64 * t + (y.val - 64 * t); omega)]
        exact hy3.symm
      · show y.val - 64 * t < j.val; omega
    · apply Fin.ext; show 64 * t + (y.val - 64 * t) = y.val; omega

end Cert.Lookup
-- ==== Proof.Reading.lean ====
/-
# Words, bits and counts as numbers
-/
module

public import Idealize.ShloMosaic.Lib.Pointwise
public import Idealize.ShloMosaic.Lib.WordCmp
public import Idealize.ShloMosaic.Lib.WordSum

@[expose] public section

noncomputable section

namespace Cert.Lookup

open Idealize.ShloMosaic

/-- A bit widened to a word and made a float is one or zero. -/
theorem float_bit (φ : FTy) (p : Prop) [Decidable p] :
    (FloatOps.sitofp φ ((BitVec.ofBool (decide p)).setWidth 32) : Ideal φ) = if p then (1 : EReal) else 0 := by
  show ((((BitVec.ofBool (decide p)).setWidth 32).toInt : ℝ) : EReal) = _
  by_cases h : p
  · simp [h]
  · simp [h]

theorem mul_bits (p q : Prop) [Decidable p] [Decidable q] :
    (if p then (1 : EReal) else 0) * (if q then (1 : EReal) else 0) = if p ∧ q then 1 else 0 := by
  by_cases hp : p <;> by_cases hq : q <;> simp [hp, hq]

theorem bit_mul (p : Prop) [Decidable p] (x : EReal) :
    (if p then (1 : EReal) else 0) * x = if p then x else 0 := by
  by_cases hp : p <;> simp [hp]

/-- A sum of ones and zeros is the number of ones. -/
theorem sum_bits {ι : Type} [Fintype ι] (p : ι → Prop) [DecidablePred p] :
    ∑ x, (if p x then (1 : EReal) else 0) = (((Finset.univ.filter p).card : ℝ) : EReal) := by
  rw [Finset.sum_boole]; simp

/-- A count made a float and read back as a word. -/
theorem word_of_count {φ : FTy} (k : ℕ) (h : k < 2 ^ 31) :
    (FloatOps.fptosi (F := Ideal) (φ := φ) 32 (((k : ℝ) : EReal))) = BitVec.ofNat 32 k := by
  show Ideal.fptosi 32 ((k : ℝ) : EReal) = _
  unfold Ideal.fptosi
  have e : Ideal.toIntClamped (-(2 ^ (32 - 1) : Nat)) ((2 ^ (32 - 1) : Nat) - 1) ((k : ℝ) : EReal) = (k : Int) := by
    show max _ (min _ (if (0 : ℝ) ≤ (k : ℝ) then ⌊(k : ℝ)⌋ else ⌈(k : ℝ)⌉)) = _
    rw [if_pos (Nat.cast_nonneg k), Int.floor_natCast]
    omega
  rw [e]
  exact BitVec.ofInt_natCast 32 k

/-- A sum of words all zero but one. -/
theorem fold_single {n : ℕ} (g : Fin n → BitVec 32) (a : Fin n) (h : ∀ x, x ≠ a → g x = 0#32) :
    Finset.fold IntOp.addi 0#32 g Finset.univ = g a := by
  have e : Finset.fold IntOp.addi 0#32 g Finset.univ = ∑ x, g x := rfl
  rw [e]
  exact Finset.sum_eq_single a (fun x _ hx => h x hx) (fun hx => absurd (Finset.mem_univ a) hx)

/-- A sum of words all zero. -/
theorem fold_zero {n : ℕ} (g : Fin n → BitVec 32) (h : ∀ x, g x = 0#32) :
    Finset.fold IntOp.addi 0#32 g Finset.univ = 0#32 := by
  have e : Finset.fold IntOp.addi 0#32 g Finset.univ = ∑ x, g x := rfl
  rw [e]
  exact Finset.sum_eq_zero (fun x _ => h x)

/-- A one-hot sum. -/
theorem sum_pick {n : ℕ} (p : Fin n → Prop) [DecidablePred p] (f : Fin n → EReal) (a : Fin n) (ha : p a)
    (h : ∀ x, p x → x = a) : ∑ x, (if p x then (1 : EReal) else 0) * f x = f a := by
  rw [Finset.sum_eq_single a]
  · rw [if_pos ha, one_mul]
  · intro x _ hx
    rw [if_neg (fun hp => hx (h x hp)), zero_mul]
  · intro hx; exact absurd (Finset.mem_univ a) hx

/-- A small number as a word, read back. -/
theorem nat_word (a : ℕ) (h : a < 2 ^ 31) : (BitVec.ofNat 32 a).toNat = a := by
  rw [BitVec.toNat_ofNat]; exact Nat.mod_eq_of_lt (by omega)

theorem int_word (a : ℕ) (h : a < 2 ^ 31) : (BitVec.ofNat 32 a).toInt = (a : Int) := by
  rw [BitVec.toInt_eq_toNat_cond, nat_word a h, if_pos (by omega)]

theorem word_eq_iff (a b : ℕ) (ha : a < 2 ^ 31) (hb : b < 2 ^ 31) :
    BitVec.ofNat 32 a = BitVec.ofNat 32 b ↔ a = b := by
  constructor
  · intro h
    have := congrArg BitVec.toNat h
    rwa [nat_word a ha, nat_word b hb] at this
  · intro h; rw [h]

theorem cmp_eq (a b : ℕ) (ha : a < 2 ^ 31) (hb : b < 2 ^ 31) :
    IntOp.cmpi .eq (BitVec.ofNat 32 a) (BitVec.ofNat 32 b) = BitVec.ofBool (decide (a = b)) := by
  have : IntOp.cmpi .eq (BitVec.ofNat 32 a) (BitVec.ofNat 32 b)
      = BitVec.ofBool (decide (BitVec.ofNat 32 a = BitVec.ofNat 32 b)) := by
    simp only [IntOp.cmpi]; congr 1
  rw [this]; simp only [word_eq_iff a b ha hb]

theorem cmp_ne (a b : ℕ) (ha : a < 2 ^ 31) (hb : b < 2 ^ 31) :
    IntOp.cmpi .ne (BitVec.ofNat 32 a) (BitVec.ofNat 32 b) = BitVec.ofBool (decide (a ≠ b)) := by
  have : IntOp.cmpi .ne (BitVec.ofNat 32 a) (BitVec.ofNat 32 b)
      = BitVec.ofBool (decide (BitVec.ofNat 32 a ≠ BitVec.ofNat 32 b)) := by
    simp only [IntOp.cmpi, bne, beq_eq_decide, decide_not]
  rw [this]; simp only [ne_eq, word_eq_iff a b ha hb]

theorem cmp_slt (a b : ℕ) (ha : a < 2 ^ 31) (hb : b < 2 ^ 31) :
    IntOp.cmpi .slt (BitVec.ofNat 32 a) (BitVec.ofNat 32 b) = BitVec.ofBool (decide (a < b)) := by
  have : IntOp.cmpi .slt (BitVec.ofNat 32 a) (BitVec.ofNat 32 b)
      = BitVec.ofBool (decide ((BitVec.ofNat 32 a).toInt < (BitVec.ofNat 32 b).toInt)) := rfl
  rw [this]; simp only [int_word a ha, int_word b hb, Int.ofNat_lt, Nat.cast_lt]

theorem cmp_sgt (a b : ℕ) (ha : a < 2 ^ 31) (hb : b < 2 ^ 31) :
    IntOp.cmpi .sgt (BitVec.ofNat 32 a) (BitVec.ofNat 32 b) = BitVec.ofBool (decide (b < a)) := by
  have : IntOp.cmpi .sgt (BitVec.ofNat 32 a) (BitVec.ofNat 32 b)
      = BitVec.ofBool (decide ((BitVec.ofNat 32 b).toInt < (BitVec.ofNat 32 a).toInt)) := rfl
  rw [this]; simp only [int_word a ha, int_word b hb, Int.ofNat_lt, Nat.cast_lt]

theorem and_bits (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem bit_congr {p q : Prop} [Decidable p] [Decidable q] (h : p ↔ q) :
    BitVec.ofBool (decide p) = BitVec.ofBool (decide q) := by simp only [h]

theorem pick_bit {α : Type} (p : Prop) [Decidable p] (x y : α) :
    Scalar.select (BitVec.ofBool (decide p)) x y = if p then x else y := by
  by_cases hp : p
  · simp only [hp, decide_true, if_true]; rfl
  · simp only [hp, decide_false, if_false]; rfl

/-- Quotient of a small word by a small positive word, on any unit. -/
theorem div_word (u : ArithUnit) (a b : ℕ) (ha : a < 2 ^ 31) (hb0 : 0 < b) (hb : b < 2 ^ 31) :
    IntOp.divsi u (BitVec.ofNat 32 a) (BitVec.ofNat 32 b) = BitVec.ofNat 32 (a / b) := by
  have na : (BitVec.ofNat 32 a).toNat = a := nat_word _ (by omega)
  have nb : (BitVec.ofNat 32 b).toNat = b := nat_word _ (by omega)
  have hc : ¬ IntOp.SDivCorner (BitVec.ofNat 32 a) (BitVec.ofNat 32 b) := by
    intro hc
    rcases hc with hc | ⟨hc, _⟩
    · have := congrArg BitVec.toNat hc
      rw [nb] at this
      simp at this; omega
    · have := congrArg BitVec.toNat hc
      rw [na] at this
      simp at this; omega
  have ma : (BitVec.ofNat 32 a).msb = false := BitVec.msb_eq_false_iff_two_mul_lt.mpr (by omega)
  have mb : (BitVec.ofNat 32 b).msb = false := BitVec.msb_eq_false_iff_two_mul_lt.mpr (by omega)
  apply BitVec.eq_of_toNat_eq
  simp only [IntOp.divsi, if_neg hc, BitVec.sdiv_eq, ma, mb, BitVec.udiv_eq, BitVec.toNat_udiv, na, nb]
  rw [nat_word]
  exact lt_of_le_of_lt (Nat.div_le_self a b) ha

/-- Remainder of a small word by a small positive word, on any unit. -/
theorem rem_word (u : ArithUnit) (a b : ℕ) (ha : a < 2 ^ 31) (hb0 : 0 < b) (hb : b < 2 ^ 31) :
    IntOp.remsi u (BitVec.ofNat 32 a) (BitVec.ofNat 32 b) = BitVec.ofNat 32 (a % b) := by
  have na : (BitVec.ofNat 32 a).toNat = a := nat_word _ (by omega)
  have nb : (BitVec.ofNat 32 b).toNat = b := nat_word _ (by omega)
  have hc : ¬ IntOp.SDivCorner (BitVec.ofNat 32 a) (BitVec.ofNat 32 b) := by
    intro hc
    rcases hc with hc | ⟨hc, _⟩
    · have := congrArg BitVec.toNat hc
      rw [nb] at this
      simp at this; omega
    · have := congrArg BitVec.toNat hc
      rw [na] at this
      simp at this; omega
  have ma : (BitVec.ofNat 32 a).msb = false := BitVec.msb_eq_false_iff_two_mul_lt.mpr (by omega)
  have mb : (BitVec.ofNat 32 b).msb = false := BitVec.msb_eq_false_iff_two_mul_lt.mpr (by omega)
  apply BitVec.eq_of_toNat_eq
  simp only [IntOp.remsi, if_neg hc, BitVec.srem_eq, ma, mb, BitVec.umod_eq, BitVec.toNat_umod, na, nb]
  rw [nat_word]
  exact lt_of_le_of_lt (Nat.mod_le a b) ha

end Cert.Lookup
-- ==== Proof.Served.lean ====
/-
# The precondition, read

What the printed predicate says of the index words, as the counting facts the kernel rests on.
-/
module

public import proofs.«01_k».proof.Pre_served_KernelIdeal
public import proofs.«01_k».proof.Proof.Counting
public import proofs.«01_k».proof.Proof.Reading
public import Idealize.ShloMosaic.Lib.StableHlo.Predicate
public import Idealize.ShloMosaic.Lib.ReduceAll

@[expose] public section

set_option maxRecDepth 20000

noncomputable section

namespace Cert.Lookup

open Cert.Pre_served_KernelIdeal
open Idealize.ShloMosaic

theorem pre_facts : Cert.Pre_served_KernelIdeal.Facts where
  bcast_S_S1024 := by decide
  shapeCasts_S1024_S1024x1 := by decide
  bcast_S1024x1_S1024x16_0_1 := by decide
  natLt_1_32 := by decide
  reducesTo_S1024_S_d0 := by decide
  h_S_ := by decide
  reducesTo_S1024x16_S16_d0 := by decide
  bcast_S_S16 := by decide
  reducesTo_S16_S_d0 := by decide
  shapeCasts_S1024x16_S16x64x16 := by decide
  reducesTo_S16x64x16_S16x16_d1 := by decide
  bcast_S_S16x16 := by decide
  reducesTo_S16x16_S_d0_1 := by decide

variable [Facts]
open Facts

theorem owner_read (x : IVec S1024 32) (n : Fin 1024) (a : ℕ) (h : x (ix1 n) = BitVec.ofNat 32 a) (ha : a < 65536) :
    fn_floor_divide (F := Ideal) x (constantI S_ 32 4096#32) (ix1 n) = BitVec.ofNat 32 (a / 4096) := by
  unfold fn_floor_divide fn_where
  pointwise
  rw [h]
  have hc : id (constantI S_ 32 4096#32) ix0 = BitVec.ofNat 32 4096 := rfl
  rw [hc, rem_word _ _ _ (by omega) (by omega) (by omega), div_word _ _ _ (by omega) (by omega) (by omega),
    cmp_ne (a % 4096) 0 (by omega) (by omega)]
  by_cases h0 : a = 0
  · subst h0
    have hx : ∀ c : BitVec 1, IntOp.andi c (BitVec.ofBool (decide (0 % 4096 ≠ 0))) = 0#1 := by decide
    rw [hx]; rfl
  · have e : BitVec.ofNat 32 a ≠ 0 := fun e => h0 ((word_eq_iff a 0 (by omega) (by omega)).mp e)
    have hm : (BitVec.ofNat 32 a).msb = false :=
      BitVec.msb_eq_false_iff_two_mul_lt.mpr (by rw [nat_word a (by omega)]; omega)
    rw [if_neg e, hm]
    have hx : ∀ c : BitVec 1, IntOp.andi (IntOp.cmpi CmpIPredicate.ne (if false = true then (-1 : BitVec 32) else 1)
        (if BitVec.ofNat 32 4096 = 0 then 0 else if (BitVec.ofNat 32 4096).msb = true then -1 else 1)) c = 0#1 := by decide
    rw [hx]; rfl

/-- The predicate's one-hot mask at a word and a device. -/
abbrev hotMask (x : IVec S1024 32) : IVec S1024x16 1 :=
  cmpi .eq (broadcastInDim S1024x16 ![0, 1] bcast_S1024x1_S1024x16_0_1
    (shapeCast S1024x1 (fn_floor_divide (F := Ideal) x (constantI S_ 32 4096#32)) shapeCasts_S1024_S1024x1)) (iotaInDim S1024x16 32 1)

theorem hot_read (x : IVec S1024 32) (n : Fin 1024) (d : Fin 16) (a : ℕ) (h : x (ix1 n) = BitVec.ofNat 32 a) (ha : a < 65536) :
    hotMask x (ix2 n d) = 1#1 ↔ a / 4096 = d.val := by
  have e : hotMask x (ix2 n d) = IntOp.cmpi .eq (fn_floor_divide (F := Ideal) x (constantI S_ 32 4096#32) (ix1 n))
      (BitVec.ofNat 32 d.val) := by
    unfold hotMask
    pointwise
  rw [e, owner_read x n a h ha, StableHlo.Predicate.cmpi_eq_iff]
  exact word_eq_iff _ _ (by omega) (by omega)

instance : Subsingleton S_.Idx := ⟨fun a b => funext fun i => i.elim0⟩

theorem served_of (tbl : FVec Ideal S4096x512 .bf16) (x : IVec S1024 32) (h : fn (F := Ideal) tbl x = fun _ => 1#1) :
    Served (fun n => (x (ix1 n)).toNat) := by
  have h0 := congrFun h (Shape.Idx.first h_S_)
  unfold fn fn_part1 at h0
  dsimp only at h0
  obtain ⟨h1, h23⟩ := IntOp.andi_eq_one.mp h0
  obtain ⟨h2, h3⟩ := IntOp.andi_eq_one.mp h23
  clear h0 h23
  have hin : ∀ n : Fin 1024, (x (ix1 n)).toNat < 65536 := fun n => by
    have e := Host.reduce_andi_all _ _ _ _ _ h1 (ix1 n)
    obtain ⟨e1, e2⟩ := IntOp.andi_eq_one.mp e
    have e1' : (0#32).toInt ≤ (x (ix1 n)).toInt := by
      have : BitVec.ofBool (decide ((0#32).toInt ≤ (x (ix1 n)).toInt)) = 1#1 := e1
      rw [StableHlo.Predicate.ofBool_eq_one_iff] at this
      exact of_decide_eq_true this
    have e2' : (x (ix1 n)).toInt < (65536#32).toInt := by
      have : BitVec.ofBool (decide ((x (ix1 n)).toInt < (65536#32).toInt)) = 1#1 := e2
      rw [StableHlo.Predicate.ofBool_eq_one_iff] at this
      exact of_decide_eq_true this
    have c0 : (0#32).toInt = 0 := by decide
    have c1 : (65536#32).toInt = 65536 := by decide
    rw [c0] at e1'; rw [c1] at e2'
    have := (x (ix1 n)).isLt
    rw [BitVec.toInt_eq_toNat_cond] at e1' e2'
    split at e1' <;> split at e2' <;> omega
  have hx : ∀ n : Fin 1024, x (ix1 n) = BitVec.ofNat 32 (x (ix1 n)).toNat := fun n => by simp
  have hot : ∀ (n : Fin 1024) (d : Fin 16), hotMask x (ix2 n d) = 1#1 ↔ (x (ix1 n)).toNat / 4096 = d.val :=
    fun n d => hot_read x n d _ (hx n) (hin n)
  have ha : ∀ (n : Fin 1024) (d : Fin 16), StableHlo.Predicate.ij n d = (ix2 n d : S1024x16.Idx) := fun n d => by
    funext b; match b with | ⟨0, _⟩ => rfl | ⟨1, _⟩ => rfl
  refine ⟨hin, ?_, ?_⟩
  · intro d hd
    have e := Host.reduce_andi_all _ _ _ _ _ h2 (ix1 (⟨d, hd⟩ : Fin 16))
    have hc := StableHlo.Predicate.toNat_reduce_count_rows (n := 1024) (m := 16) (by decide) (hotMask x) natLt_1_32
      reducesTo_S1024x16_S16_d0 h_S_ (ix1 (⟨d, hd⟩ : Fin 16))
    have hf : (Finset.univ.filter fun p : Fin 1024 => hotMask x (StableHlo.Predicate.ij p ((ix1 (⟨d, hd⟩ : Fin 16) : S16.Idx) 0)) = 1#1)
        = Finset.univ.filter fun n : Fin 1024 => (x (ix1 n)).toNat / 4096 = d := by
      ext p
      simp only [Finset.mem_filter, Finset.mem_univ, true_and]
      exact (iff_of_eq (congrArg (fun z => hotMask x z = 1#1) (ha p ⟨d, hd⟩))).trans (hot p ⟨d, hd⟩)
    rw [hf] at hc
    have hle : (Finset.univ.filter fun n : Fin 1024 => (x (ix1 n)).toNat / 4096 = d).card ≤ 1024 :=
      (Finset.card_le_univ _).trans (by simp)
    have := (StableHlo.Predicate.sle_iff_toNat (by rw [hc]; omega) (by show (128#32).toNat < 2 ^ 31; decide)).mp e
    rw [hc] at this
    exact this
  · intro t d ht hd
    have e := Host.reduce_andi_all _ _ _ _ _ h3 (ix2 (⟨t, ht⟩ : Fin 16) (⟨d, hd⟩ : Fin 16))
    have hval : ∀ i, (shapeCast S16x64x16 (extui 32 (hotMask x) natLt_1_32) shapeCasts_S1024x16_S16x64x16 i).toNat
        = if shapeCast S16x64x16 (hotMask x) shapeCasts_S1024x16_S16x64x16 i = 1#1 then 1 else 0 :=
      fun i => StableHlo.Predicate.toNat_setWidth_bit _
    have hread : ∀ (a : Fin 16) (b : Fin 64) (c : Fin 16),
        shapeCast S16x64x16 (hotMask x) shapeCasts_S1024x16_S16x64x16 (ix3 a b c)
          = hotMask x (ix2 (⟨64 * a.val + b.val, by omega⟩ : Fin 1024) c) := fun a b c => by
      generalize hotMask x = mk
      pointwise
      congr 2
      exact Fin.ext (by show a.val * 64 + b.val = 64 * a.val + b.val; omega)
    have hdrop : ∀ (a : Fin 16) (b : Fin 64) (c : Fin 16),
        reducesTo_S16x64x16_S16x16_d1.drop (ix3 a b c) = (ix2 a c : S16x16.Idx) := fun a b c => by
      funext q
      match q with
      | ⟨0, _⟩ => rfl
      | ⟨1, _⟩ => rfl
    set Mk := shapeCast S16x64x16 (hotMask x) shapeCasts_S1024x16_S16x64x16 with hMk
    have hsum : ∑ i ∈ Finset.univ.filter (fun i : S16x64x16.Idx => reducesTo_S16x64x16_S16x16_d1.drop i
          = (ix2 (⟨t, ht⟩ : Fin 16) (⟨d, hd⟩ : Fin 16) : S16x16.Idx)),
          (shapeCast S16x64x16 (extui 32 (hotMask x) natLt_1_32) shapeCasts_S1024x16_S16x64x16 i).toNat
        = ((Finset.univ.filter (fun i : S16x64x16.Idx => reducesTo_S16x64x16_S16x16_d1.drop i
          = (ix2 (⟨t, ht⟩ : Fin 16) (⟨d, hd⟩ : Fin 16) : S16x16.Idx))).filter fun i => Mk i = 1#1).card := by
      rw [Finset.card_filter]
      exact Finset.sum_congr rfl fun i _ => hval i
    have hbound : ((Finset.univ.filter (fun i : S16x64x16.Idx => reducesTo_S16x64x16_S16x16_d1.drop i
          = (ix2 (⟨t, ht⟩ : Fin 16) (⟨d, hd⟩ : Fin 16) : S16x16.Idx))).filter fun i => Mk i = 1#1).card ≤ 16384 := by
      refine (Finset.card_le_univ _).trans (le_of_eq ?_)
      rw [Fintype.card_congr S16x64x16.rowMajor, Fintype.card_fin]; decide
    have hc : (Host.reduce IntOp.addi (shapeCast S16x64x16 (extui 32 (hotMask x) natLt_1_32) shapeCasts_S1024x16_S16x64x16)
        (constantI S_ 32 0#32) reducesTo_S16x64x16_S16x16_d1 h_S_ (ix2 (⟨t, ht⟩ : Fin 16) (⟨d, hd⟩ : Fin 16))).toNat
        = ((Finset.univ.filter (fun i : S16x64x16.Idx => reducesTo_S16x64x16_S16x16_d1.drop i
          = (ix2 (⟨t, ht⟩ : Fin 16) (⟨d, hd⟩ : Fin 16) : S16x16.Idx))).filter fun i => Mk i = 1#1).card := by
      rw [Host.reduce_eq_fold, ← hsum]
      exact StableHlo.Predicate.toNat_fold_addi _ _ (by rw [hsum]; omega)
    have hle := (StableHlo.Predicate.sle_iff_toNat (by rw [hc]; omega) (by show (16#32).toNat < 2 ^ 31; decide)).mp e
    rw [hc] at hle
    refine le_trans ?_ hle
    refine Finset.card_le_card_of_injOn
      (fun y : Fin 1024 => (ix3 (⟨y.val / 64, by omega⟩ : Fin 16) (⟨y.val % 64, by omega⟩ : Fin 64) (⟨d, hd⟩ : Fin 16) : S16x64x16.Idx)) ?_ ?_
    · intro y hy
      simp only [Finset.coe_filter, Finset.mem_univ, true_and, Set.mem_setOf_eq] at hy
      simp only [Finset.coe_filter, Finset.mem_filter, Finset.mem_univ, true_and, Set.mem_setOf_eq]
      refine ⟨?_, ?_⟩
      · rw [hdrop]
        congr 1
        exact Fin.ext hy.1
      · rw [hread]
        have : (⟨64 * (y.val / 64) + y.val % 64, by omega⟩ : Fin 1024) = y := Fin.ext (by show 64 * (y.val / 64) + y.val % 64 = y.val; omega)
        refine (iff_of_eq (congrArg (fun z => hotMask x (ix2 z (⟨d, hd⟩ : Fin 16)) = 1#1) this)).mpr ((hot y ⟨d, hd⟩).mpr hy.2)
    · intro y _ z _ hyz
      have hyz' := (ix3_inj _ _ _ _ _ _).mp hyz
      have h1 := congrArg Fin.val hyz'.1
      have h2 := congrArg Fin.val hyz'.2.1
      simp only [] at h1 h2
      exact Fin.ext (by omega)

end Cert.Lookup
-- ==== Proof.Pack.lean ====
/-
# What a device packs

The packing half of the body, read at an index: the owned words get ranks, a row keeps the word of its rank, the rows'
table rows are picked by a one-hot product, and a second one-hot product puts each at the place its chunk reads.
-/
module

public import proofs.«01_k».proof.Proof.Gen.KernelIdeal
public import proofs.«01_k».proof.Proof.Gen.KernelIdeal.Skeleton
public import proofs.«01_k».proof.Proof.Counting
public import proofs.«01_k».proof.Proof.Reading

@[expose] public section

set_option maxRecDepth 20000

noncomputable section

namespace Cert.Lookup

open Cert.KernelIdeal Cert.KernelIdeal.Gen
open Idealize.ShloMosaic

variable {d : Dev nD} {v : Vec Ideal S1024 .i32} {w : Words}

/-- The device's own number, as the kernel computes it. -/
theorem own_word (d : Dev nD) :
    Scalar.muli (Scalar.remsi (Scalar.divsi d.word 1#32) 16#32) 4096#32 = BitVec.ofNat 32 (4096 * d.val) := by
  have h : Scalar.remsi (Scalar.divsi d.word 1#32) 16#32 = BitVec.ofNat 32 d.val := by
    have h1 : d.word = BitVec.ofNat 32 d.val := rfl
    have hd : d.val < 16 := d.isLt
    rw [h1]
    show IntOp.remsi .scalar (IntOp.divsi .scalar (BitVec.ofNat 32 d.val) (BitVec.ofNat 32 1)) (BitVec.ofNat 32 16) = _
    rw [div_word _ _ _ (by omega) (by omega) (by omega), rem_word _ _ _ (by omega) (by omega) (by omega)]
    congr 1; omega
  rw [h]
  show BitVec.ofNat 32 d.val * BitVec.ofNat 32 4096 = _
  rw [← BitVec.ofNat_mul, Nat.mul_comm]

/-- The word less the device's first row. -/
theorem local_word (hv : ∀ n, v (ix1 n) = BitVec.ofNat 32 (w n)) (n : Fin 1024) :
    k0_pay2 (F := Ideal) d v (ix2 0 n) = BitVec.ofNat 32 (w n) - BitVec.ofNat 32 (4096 * d.val) := by
  unfold k0_pay2
  pointwise
  rw [own_word, hv]
  rfl

theorem local_int (n : ℕ) (d : ℕ) (hn : n < 65536) (hd : d < 16) :
    (BitVec.ofNat 32 n - BitVec.ofNat 32 (4096 * d)).toInt = (n : Int) - 4096 * (d : Int) := by
  rw [BitVec.toInt_sub, int_word n (by omega), int_word (4096 * d) (by omega), Int.bmod_eq_of_le] <;> omega

theorem local_of_owned (n : ℕ) (d : ℕ) (h : n / 4096 = d) :
    BitVec.ofNat 32 n - BitVec.ofNat 32 (4096 * d) = BitVec.ofNat 32 (n % 4096) := by
  have e : n = 4096 * d + n % 4096 := by omega
  conv_lhs => rw [e]
  rw [BitVec.ofNat_add]
  rw [BitVec.add_comm]
  exact BitVec.add_sub_cancel _ _

/-- The owned words, as bits. -/
theorem owned_bit (n : ℕ) (d : ℕ) (hn : n < 65536) (hd : d < 16) :
    IntOp.andi (IntOp.cmpi .sge (BitVec.ofNat 32 n - BitVec.ofNat 32 (4096 * d)) 0#32)
      (IntOp.cmpi .slt (BitVec.ofNat 32 n - BitVec.ofNat 32 (4096 * d)) 4096#32)
      = BitVec.ofBool (decide (n / 4096 = d)) := by
  have h1 : IntOp.cmpi .sge (BitVec.ofNat 32 n - BitVec.ofNat 32 (4096 * d)) 0#32
      = BitVec.ofBool (decide ((0#32).toInt ≤ (BitVec.ofNat 32 n - BitVec.ofNat 32 (4096 * d)).toInt)) := rfl
  have h2 : IntOp.cmpi .slt (BitVec.ofNat 32 n - BitVec.ofNat 32 (4096 * d)) 4096#32
      = BitVec.ofBool (decide ((BitVec.ofNat 32 n - BitVec.ofNat 32 (4096 * d)).toInt < (4096#32).toInt)) := rfl
  rw [h1, h2, local_int n d hn hd, and_bits]
  refine bit_congr ?_
  have e0 : (0#32).toInt = 0 := by decide
  have e1 : (4096#32).toInt = 4096 := by decide
  rw [e0, e1]
  omega

/-- The permutation, as bits: row `r` keeps word `n`. -/
theorem perm_bit (hv : ∀ n, v (ix1 n) = BitVec.ofNat 32 (w n)) (hw : ∀ n, w n < 65536) (r : Fin 128) (n : Fin 1024) :
    k0_pay3 (F := Ideal) d v (ix2 r n) = BitVec.ofBool (decide (Keeps w d.val r.val n)) := by
  unfold k0_pay3
  pointwise [dot_S1x1024_S1024x1024_S1x1024_1_0_0_1_n_n]
  have hd : d.val < 16 := d.isLt
  simp only [local_word hv, owned_bit _ _ (hw _) hd]
  have hr : r.val < 128 := r.isLt
  have e : ∀ x : Fin 1024, IntOp.cmpi CmpIPredicate.slt (BitVec.ofNat 32 x.val) (BitVec.ofNat 32 n.val)
      = BitVec.ofBool (decide (x < n)) := fun x => by
    rw [cmp_slt _ _ (by omega) (by omega)]; rfl
  simp only [e, float_bit, mul_bits]
  rw [sum_bits]
  have hk : (Finset.univ.filter fun x : Fin 1024 => w x / 4096 = d.val ∧ x < n).card = rk w d.val n := by
    unfold rk; congr 1; ext x; simp only [Finset.mem_filter, Finset.mem_univ, true_and]; exact and_comm
  rw [hk, word_of_count _ (by have := rk_le (w := w) (d := d.val) n; omega),
    cmp_eq _ _ (by omega) (by have := rk_le (w := w) (d := d.val) n; omega), and_bits]
  rfl

/-- The number of the word a row keeps. -/
theorem kept_word (hv : ∀ n, v (ix1 n) = BitVec.ofNat 32 (w n)) (hw : ∀ n, w n < 65536) (r : Fin 128) :
    k0_pay5 (F := Ideal) d v (ix2 r 0) = BitVec.ofNat 32 (wordOf w d.val r.val).val := by
  unfold k0_pay5
  pointwise
  simp only [perm_bit hv hw, pick_bit]
  by_cases hu : Used w d.val r.val
  · rw [fold_single _ (wordOf w d.val r.val)]
    · rw [if_pos (keeps_kept hu)]
    · intro x hx; rw [if_neg]; intro hk; exact hx ((keeps_iff hu x).mp hk)
  · rw [fold_zero]
    · rw [kept_of_not hu]; rfl
    · intro x; rw [if_neg]; intro hk; exact hu ⟨x, hk⟩

/-- The table row of the word a row keeps. -/
theorem row_word (hv : ∀ n, v (ix1 n) = BitVec.ofNat 32 (w n)) (hw : ∀ n, w n < 65536) (r : Fin 128)
    (hu : Used w d.val r.val) :
    k0_pay4 (F := Ideal) d v (ix2 r 0) = BitVec.ofNat 32 (w (wordOf w d.val r.val) % 4096) := by
  unfold k0_pay4
  pointwise
  simp only [perm_bit hv hw, pick_bit, local_word hv]
  rw [fold_single _ (wordOf w d.val r.val)]
  · rw [if_pos (keeps_kept hu)]
    exact local_of_owned _ _ (keeps_kept hu).2
  · intro x hx; rw [if_neg]; intro hk; exact hx ((keeps_iff hu x).mp hk)

/-- How many words a row keeps. -/
theorem used_word (hv : ∀ n, v (ix1 n) = BitVec.ofNat 32 (w n)) (hw : ∀ n, w n < 65536) (r : Fin 128) :
    k0_pay6 (F := Ideal) d v (ix1 r) = BitVec.ofNat 32 (if Used w d.val r.val then 1 else 0) := by
  unfold k0_pay6
  pointwise
  simp only [perm_bit hv hw]
  by_cases hu : Used w d.val r.val
  · rw [fold_single _ (wordOf w d.val r.val)]
    · rw [if_pos hu]; simp only [keeps_kept hu, decide_true]; rfl
    · intro x hx
      have : ¬ Keeps w d.val r.val x := fun hk => hx ((keeps_iff hu x).mp hk)
      simp only [this, decide_false]; rfl
  · rw [fold_zero, if_neg hu]
    intro x
    have : ¬ Keeps w d.val r.val x := fun hk => hu ⟨x, hk⟩
    simp only [this, decide_false]; rfl

/-- Which rows keep a word, as bits. -/
theorem used_bit (hv : ∀ n, v (ix1 n) = BitVec.ofNat 32 (w n)) (hw : ∀ n, w n < 65536) (r : Fin 128) :
    k0_pay7 (k0_pay6 (F := Ideal) d v) (ix2 r 0) = BitVec.ofBool (decide (Used w d.val r.val)) := by
  unfold k0_pay7
  pointwise
  rw [used_word hv hw]
  by_cases hu : Used w d.val r.val
  · simp only [hu, if_true, decide_true]; rfl
  · simp only [hu, if_false, decide_false]; rfl

/-- The table rows picked. -/
theorem picked (hv : ∀ n, v (ix1 n) = BitVec.ofNat 32 (w n)) (hw : ∀ n, w n < 65536)
    (tbl : Vec Ideal S4096x512 .bf16) (r : Fin 128) (k : Fin 512) (hu : Used w d.val r.val) :
    k0_pay8 (F := Ideal) (k0_pay1 tbl) (k0_pay4 (F := Ideal) d v) (ix2 r k)
      = tbl (ix2 ⟨w (wordOf w d.val r.val) % 4096, Nat.mod_lt _ (by decide)⟩ k) := by
  unfold k0_pay8 k0_pay1
  pointwise [dot_S128x4096_S4096x512_S128x512_1_0_0_1_n_n]
  have e : ∀ x : Fin 4096, IntOp.cmpi CmpIPredicate.eq (k0_pay4 (F := Ideal) d v (ix2 r 0)) (BitVec.ofNat 32 x.val)
      = BitVec.ofBool (decide (w (wordOf w d.val r.val) % 4096 = x.val)) := fun x => by
    rw [row_word hv hw r hu, cmp_eq _ _ (by omega) (by omega)]
  simp only [e, float_bit]
  exact sum_pick _ (fun x => tbl (ix2 x k)) _ rfl (fun x hx => Fin.ext hx.symm)

/-- The quotient by a positive number, rounded down by the printed correction: nothing to correct. -/
theorem floor_word (a b : ℕ) (ha : a < 2 ^ 31) (hb0 : 0 < b) (hb : b < 2 ^ 31) :
    Scalar.select
      (IntOp.andi
        (IntOp.cmpi .ne (IntOp.subi ((IntOp.cmpi .sgt (BitVec.ofNat 32 a) 0#32).setWidth 32)
          ((IntOp.cmpi .slt (BitVec.ofNat 32 a) 0#32).setWidth 32)) 1#32)
        (IntOp.cmpi .ne (IntOp.remsi .vector (BitVec.ofNat 32 a) (BitVec.ofNat 32 b)) 0#32))
      (IntOp.subi (IntOp.divsi .vector (BitVec.ofNat 32 a) (BitVec.ofNat 32 b)) 1#32)
      (IntOp.divsi .vector (BitVec.ofNat 32 a) (BitVec.ofNat 32 b)) = BitVec.ofNat 32 (a / b) := by
  rw [show (0#32) = BitVec.ofNat 32 0 from rfl, cmp_sgt _ _ ha (by omega), cmp_slt _ _ ha (by omega),
    rem_word _ _ _ ha hb0 hb, cmp_ne _ _ (lt_of_le_of_lt (Nat.mod_le a b) ha) (by omega),
    div_word _ _ _ ha hb0 hb]
  by_cases h0 : a = 0
  · subst h0
    simp only [Nat.zero_mod, ne_eq, not_true, decide_false]
    have : ∀ c : BitVec 1, IntOp.andi c (BitVec.ofBool false) = 0#1 := by decide
    rw [this]; rfl
  · have h1 : 0 < a := by omega
    have h2 : ¬ a < 0 := by omega
    simp only [h1, h2, decide_true, decide_false]
    have : ∀ c : BitVec 1, IntOp.andi (IntOp.cmpi CmpIPredicate.ne (IntOp.subi ((BitVec.ofBool true).setWidth 32)
      ((BitVec.ofBool false).setWidth 32)) 1#32) c = 0#1 := by decide
    rw [this]; rfl

/-- The chunk of the word a row keeps. -/
theorem chunk_word (hv : ∀ n, v (ix1 n) = BitVec.ofNat 32 (w n)) (hw : ∀ n, w n < 65536) (r : Fin 128) :
    k0_pay9 (k0_pay5 (F := Ideal) d v) (ix2 r 0) = BitVec.ofNat 32 ((wordOf w d.val r.val).val / 64) := by
  unfold k0_pay9
  pointwise
  rw [kept_word hv hw]
  exact floor_word _ 64 (by omega) (by omega) (by omega)

/-- The pairs of rows whose words lie in one chunk. -/
theorem pairs (hv : ∀ n, v (ix1 n) = BitVec.ofNat 32 (w n)) (hw : ∀ n, w n < 65536) (r r' : Fin 128) :
    k0_pay10 (F := Ideal) (k0_pay5 (F := Ideal) d v) (k0_pay6 (F := Ideal) d v) (ix2 r r')
      = if Used w d.val r.val ∧ Used w d.val r'.val
          ∧ (wordOf w d.val r.val).val / 64 = (wordOf w d.val r'.val).val / 64 then (1 : EReal) else 0 := by
  unfold k0_pay10
  pointwise [dot_S128x16_S128x16_S128x128_1_1_0_0_n_n]
  have e : ∀ (r : Fin 128) (x : Fin 16), IntOp.cmpi CmpIPredicate.eq (k0_pay9 (k0_pay5 (F := Ideal) d v) (ix2 r 0))
      (BitVec.ofNat 32 x.val) = BitVec.ofBool (decide ((wordOf w d.val r.val).val / 64 = x.val)) := fun r x => by
    rw [chunk_word hv hw, cmp_eq _ _ (by omega) (by omega)]
  simp only [e, used_bit hv hw, float_bit, mul_bits]
  by_cases h : Used w d.val r.val ∧ Used w d.val r'.val
      ∧ (wordOf w d.val r.val).val / 64 = (wordOf w d.val r'.val).val / 64
  · rw [if_pos h, Finset.sum_eq_single (⟨(wordOf w d.val r.val).val / 64, by omega⟩ : Fin 16)]
    · rw [if_pos]; exact ⟨⟨rfl, h.1⟩, h.2.2.symm, h.2.1⟩
    · intro x _ hx; rw [if_neg]; intro hc; exact hx (Fin.ext hc.1.1.symm)
    · intro hx; exact absurd (Finset.mem_univ _) hx
  · rw [if_neg h]
    refine Finset.sum_eq_zero fun x _ => ?_
    rw [if_neg]
    rintro ⟨⟨h1, h2⟩, h3, h4⟩
    exact h ⟨h2, h4, h1.trans h3.symm⟩

/-- What a device packs: the table row of a word it owns, at the place the word's chunk reads. -/
theorem packed_apply (hv : ∀ n, v (ix1 n) = BitVec.ofNat 32 (w n)) (hs : Served w)
    (tbl : Vec Ideal S4096x512 .bf16) (n : Fin 1024) (hn : w n / 4096 = d.val) (x : Fin 256)
    (hx : x.val = 16 * (n.val / 64) + place w n) (k : Fin 512) :
    k0_pay12 (F := Ideal) (k0_pay7 (k0_pay6 (F := Ideal) d v))
      (k0_pay8 (F := Ideal) (k0_pay1 tbl) (k0_pay4 (F := Ideal) d v)) (k0_pay9 (k0_pay5 (F := Ideal) d v))
      (k0_pay10 (F := Ideal) (k0_pay5 (F := Ideal) d v) (k0_pay6 (F := Ideal) d v)) k0_pay11 (ix2 x k)
      = tbl (ix2 ⟨w n % 4096, Nat.mod_lt _ (by decide)⟩ k) := by
  have hw := hs.inTable
  unfold k0_pay12 k0_pay11
  pointwise [dot_S128x256_S128x512_S256x512_0_0_1_1_n_n]
  have e1 : ∀ (y z : Fin 128), IntOp.cmpi CmpIPredicate.slt (BitVec.ofNat 32 z.val) (BitVec.ofNat 32 y.val)
      = BitVec.ofBool (decide (z < y)) := fun y z => by
    rw [cmp_slt _ _ (by omega) (by omega)]; rfl
  have e2 : ∀ y : Fin 128, (∑ z : Fin 128, k0_pay10 (F := Ideal) (k0_pay5 (F := Ideal) d v) (k0_pay6 (F := Ideal) d v) (ix2 y z)
      * (FloatOps.sitofp FTy.f32 (BitVec.setWidth 32 (IntOp.cmpi CmpIPredicate.slt (BitVec.ofNat 32 z.val)
          (BitVec.ofNat 32 y.val))) : Ideal .f32)) = (((rowPlace w d.val y : ℕ) : ℝ) : EReal) := fun y => by
    simp only [e1, float_bit, pairs hv hw, mul_bits]
    rw [sum_bits]; rfl
  have e3 : ∀ y : Fin 128, FloatOps.fptosi (F := Ideal) (φ := .f32) 32 ((((rowPlace w d.val y : ℕ) : ℝ) : EReal))
      = BitVec.ofNat 32 (rowPlace w d.val y) := fun y =>
    word_of_count _ (by have := rowPlace_le (w := w) (d := d.val) y; omega)
  have e4 : ∀ y : Fin 128, IntOp.cmpi CmpIPredicate.slt (BitVec.ofNat 32 (rowPlace w d.val y)) 16#32
      = BitVec.ofBool (decide (rowPlace w d.val y < 16)) := fun y =>
    cmp_slt _ _ (by have := rowPlace_le (w := w) (d := d.val) y; omega) (by omega)
  have e5 : ∀ y : Fin 128, IntOp.cmpi CmpIPredicate.eq (IntOp.addi (IntOp.muli
        (k0_pay9 (k0_pay5 (F := Ideal) d v) (ix2 y 0)) 16#32) (BitVec.ofNat 32 (rowPlace w d.val y))) (BitVec.ofNat 32 x.val)
      = BitVec.ofBool (decide ((wordOf w d.val y.val).val / 64 * 16 + rowPlace w d.val y = x.val)) := fun y => by
    have := rowPlace_le (w := w) (d := d.val) y
    rw [chunk_word hv hw]
    have : IntOp.addi (IntOp.muli (BitVec.ofNat 32 ((wordOf w d.val y.val).val / 64)) 16#32)
        (BitVec.ofNat 32 (rowPlace w d.val y))
        = BitVec.ofNat 32 ((wordOf w d.val y.val).val / 64 * 16 + rowPlace w d.val y) := by
      rw [BitVec.ofNat_add, BitVec.ofNat_mul]; rfl
    rw [this, cmp_eq _ _ (by omega) (by omega)]
  simp only [e2, e3, e4, e5, used_bit hv hw, and_bits, float_bit, mul_bits]
  have hr := hs.rk_lt n
  rw [hn] at hr
  have hkeep : Keeps w d.val (⟨rk w d.val n, hr⟩ : Fin 128).val n := ⟨rfl, hn⟩
  have hpl := rowPlace_eq hkeep
  have hq := hs.place_lt n
  have hkk := kept_eq hkeep
  have ha : (wordOf w d.val (⟨rk w d.val n, hr⟩ : Fin 128).val).val / 64 * 16
      + rowPlace w d.val ⟨rk w d.val n, hr⟩ = x.val ∧ Used w d.val (⟨rk w d.val n, hr⟩ : Fin 128).val
      ∧ rowPlace w d.val ⟨rk w d.val n, hr⟩ < 16 := by
    refine ⟨?_, ⟨n, hkeep⟩, ?_⟩
    · rw [hkk, hpl, hx]; omega
    · rw [hpl]; exact hq
  have hone : ∀ y : Fin 128, (wordOf w d.val y.val).val / 64 * 16 + rowPlace w d.val y = x.val ∧ Used w d.val y.val
      ∧ rowPlace w d.val y < 16 → y = ⟨rk w d.val n, hr⟩ := by
    rintro y ⟨h1, h2, h3⟩
    exact row_unique hkeep h2 h3 hq (h1.trans hx)
  refine (sum_pick _ (fun y => k0_pay8 (F := Ideal) (k0_pay1 tbl) (k0_pay4 (F := Ideal) d v) (ix2 y k))
    ⟨rk w d.val n, hr⟩ ha hone).trans ?_
  refine (picked hv hw tbl _ k ⟨n, hkeep⟩).trans ?_
  congr 2
  apply Fin.ext
  show w (wordOf w d.val (rk w d.val n)) % 4096 = _
  rw [show wordOf w d.val (rk w d.val n) = n from hkk]

end Cert.Lookup
-- ==== Proof.Unpack.lean ====
/-
# What a device answers

The answering half of the body, read at an index: the owner of an asked word, its place among the asked words of that
owner, and the one-hot product that picks the landed row at that owner and place.
-/
module

public import proofs.«01_k».proof.Proof.Gen.KernelIdeal
public import proofs.«01_k».proof.Proof.Gen.KernelIdeal.Skeleton
public import proofs.«01_k».proof.Proof.Counting
public import proofs.«01_k».proof.Proof.Reading
public import proofs.«01_k».proof.Proof.Pack

@[expose] public section

set_option maxRecDepth 20000

noncomputable section

namespace Cert.Lookup

open Cert.KernelIdeal Cert.KernelIdeal.Gen
open Idealize.ShloMosaic

variable {a : Vec Ideal S64 .i32} {v : Fin 64 → ℕ}

/-- The owner of an asked word, rounded down by the printed correction. -/
theorem owner_word (ha : ∀ j, a (ix1 j) = BitVec.ofNat 32 (v j)) (hv : ∀ j, v j < 65536) (j : Fin 64) :
    Scalar.select (k0_pay15 (F := Ideal) a (ix2 j 0))
      (IntOp.subi (k0_pay14 (F := Ideal) a (ix2 j 0)) (k0_pay16 (ix2 j 0)))
      (k0_pay14 (F := Ideal) a (ix2 j 0)) = BitVec.ofNat 32 (v j / 4096) := by
  unfold k0_pay15 k0_pay14 k0_pay16 k0_pay13
  pointwise
  rw [ha]
  exact floor_word _ 4096 (by have := hv j; omega) (by omega) (by omega)

/-- The one-hot matrix that picks landed rows. -/
theorem picks (ha : ∀ j, a (ix1 j) = BitVec.ofNat 32 (v j)) (hv : ∀ j, v j < 65536) (j : Fin 64) (x : Fin 256) (p : ℕ)
    (hp : p = (Finset.univ.filter fun y : Fin 64 => v j / 4096 = v y / 4096 ∧ y < j).card) :
    k0_pay17 (F := Ideal) (k0_pay14 (F := Ideal) a) (k0_pay15 (F := Ideal) a) k0_pay16 (ix2 j x)
      = if v j / 4096 * 16 + p = x.val ∧ p < 16 then (1 : EReal) else 0 := by
  have hp64 : p ≤ 64 := by
    rw [hp]; refine (Finset.card_le_univ _).trans ?_; simp
  unfold k0_pay17
  pointwise [dot_S64x16_S64x16_S64x64_1_1_0_0_n_n]
  simp only [owner_word ha hv]
  have e1 : ∀ (y z : Fin 64), IntOp.cmpi CmpIPredicate.slt (BitVec.ofNat 32 z.val) (BitVec.ofNat 32 y.val)
      = BitVec.ofBool (decide (z < y)) := fun y z => by
    rw [cmp_slt _ _ (by omega) (by omega)]; rfl
  have e2 : ∀ (y : Fin 64) (z : Fin 16), IntOp.cmpi CmpIPredicate.eq (BitVec.ofNat 32 (v y / 4096)) (BitVec.ofNat 32 z.val)
      = BitVec.ofBool (decide (v y / 4096 = z.val)) := fun y z => by
    have := hv y
    rw [cmp_eq _ _ (by omega) (by omega)]
  simp only [e1, e2, float_bit, mul_bits]
  have e3 : ∀ y z : Fin 64, (∑ q : Fin 16, if v y / 4096 = q.val ∧ v z / 4096 = q.val then (1 : EReal) else 0)
      = if v y / 4096 = v z / 4096 then 1 else 0 := fun y z => by
    have := hv y
    by_cases h : v y / 4096 = v z / 4096
    · rw [if_pos h, Finset.sum_eq_single (⟨v y / 4096, by omega⟩ : Fin 16)]
      · rw [if_pos]; exact ⟨rfl, h.symm⟩
      · intro q _ hq; rw [if_neg]; intro hc; exact hq (Fin.ext hc.1.symm)
      · intro hq; exact absurd (Finset.mem_univ _) hq
    · rw [if_neg h]
      refine Finset.sum_eq_zero fun q _ => ?_
      rw [if_neg]; rintro ⟨h1, h2⟩; exact h (h1.trans h2.symm)
  simp only [e3, mul_bits]
  rw [sum_bits, ← hp, word_of_count _ (by omega)]
  have e4 : IntOp.cmpi CmpIPredicate.slt (BitVec.ofNat 32 p) 16#32 = BitVec.ofBool (decide (p < 16)) :=
    cmp_slt _ _ (by omega) (by omega)
  have e5 : IntOp.cmpi CmpIPredicate.eq (IntOp.addi (IntOp.muli (BitVec.ofNat 32 (v j / 4096)) 16#32) (BitVec.ofNat 32 p))
      (BitVec.ofNat 32 x.val) = BitVec.ofBool (decide (v j / 4096 * 16 + p = x.val)) := by
    have := hv j
    have h : IntOp.addi (IntOp.muli (BitVec.ofNat 32 (v j / 4096)) 16#32) (BitVec.ofNat 32 p)
        = BitVec.ofNat 32 (v j / 4096 * 16 + p) := by
      rw [BitVec.ofNat_add, BitVec.ofNat_mul]; rfl
    rw [h, cmp_eq _ _ (by omega) (by omega)]
  simp only [e4, e5, float_bit, mul_bits]

/-- What a device answers for an asked word: the landed row at the word's owner and place. -/
theorem answer_apply {w : Words} (hs : Served w) (t : ℕ) (ht : t < 16) (n : Fin 1024) (j : Fin 64)
    (hn : n.val = 64 * t + j.val) (hv : ∀ (x : Fin 64) (y : Fin 1024), y.val = 64 * t + x.val → v x = w y)
    (ha : ∀ j, a (ix1 j) = BitVec.ofNat 32 (v j)) (L : Vec Ideal S16x16x512 .bf16) (k : Fin 512) :
    k0_pay18 (F := Ideal) (k0_pay17 (F := Ideal) (k0_pay14 (F := Ideal) a) (k0_pay15 (F := Ideal) a) k0_pay16) L (ix2 j k)
      = L (ix3 ⟨w n / 4096, hs.owner_lt n⟩ ⟨place w n, hs.place_lt n⟩ k) := by
  have hv' : ∀ x, v x < 65536 := fun x => by
    rw [hv x ⟨64 * t + x.val, by omega⟩ rfl]; exact hs.inTable _
  have hvj : v j = w n := hv j n hn
  have hcp := chunk_place (w := w) t ht j n hn v hv
  have hq := hs.place_lt n
  have ho := hs.owner_lt n
  unfold k0_pay18
  pointwise [dot_S64x256_S256x512_S64x512_1_0_0_1_n_n]
  simp only [picks ha hv' j _ (place w n) hcp.symm, hvj]
  have hb : w n / 4096 * 16 + place w n < 256 := by omega
  have key := sum_pick (fun x : Fin 256 => w n / 4096 * 16 + place w n = x.val ∧ place w n < 16)
    (fun x => L (ix3 (⟨x.val / 16, by omega⟩ : Fin 16) (⟨x.val % 16, by omega⟩ : Fin 16) k))
    ⟨w n / 4096 * 16 + place w n, hb⟩ ⟨rfl, hq⟩ (fun x hx => Fin.ext hx.1.symm)
  refine key.trans ?_
  congr 2 <;> apply Fin.ext <;> show _ = _ <;> simp only [] <;> omega

end Cert.Lookup
-- ==== Proof.Value.lean ====
/-
# The result is the table's rows at the words

What each device's result array ends holding, given the counting facts of the words, and what the reference's gather
reads under them.
-/
module

public import proofs.«01_k».proof.Proof.Launch
public import proofs.«01_k».proof.Proof.Pack
public import proofs.«01_k».proof.Proof.Unpack
public import proofs.«01_k».proof.Proof.Gen.ReferenceIdeal
public import Idealize.ShloMosaic.Lib.Layout
public import Idealize.ShloMosaic.Lib.Routing.Ops

@[expose] public section

set_option maxRecDepth 20000

noncomputable section

namespace Cert.Lookup

open Cert.KernelIdeal Cert.KernelIdeal.Gen
open Idealize.ShloMosaic
open Idealize.ShloMosaic.TcCoe

variable (m : (ℓ : Loc nD τ sig) → Buf (Elt Ideal) ℓ) (ρ : Dev nD → PrngReg)

/-! ## The staged arrays are the arguments, and the result array is what was staged -/

theorem tb_eq (c : Dev nD) : tb m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt Ideal) main_arg0 hz (fun a => by fin_cases a <;> decide) _

theorem ixs_eq (c : Dev nD) : ixs m ρ c = m ((c : Thread nD τ).loc main_arg1) := by
  have hz : (fun a => (win0_1.index (0 : Fin 1)) a * main_arg1.ty.shape.size a) = fun _ => 0 :=
    funext fun a => by fin_cases a <;> decide
  exact Memref.read_access_unit_zero (Elt Ideal) main_arg1 hz (fun a => by fin_cases a <;> decide) _

theorem final_result (c : Dev nD) : finalA m ρ c (2 : Fin 3) = result m ρ := by
  have hz : (fun a => (win0_2.index (0 : Fin 1)) a * main_v1.ty.shape.size a) = fun _ => 0 :=
    funext fun a => by fin_cases a <;> decide
  have hr := fun f => Memref.read_access_unit_zero (Elt Ideal) main_v1 hz (fun a => by fin_cases a <;> decide) f
  have ho : (win0_2.blk (0 : Fin 1)).view.read (Elt Ideal) (finalA m ρ c (2 : Fin 3)) = result m ρ := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  exact (hr _).symm.trans ho

/-! ## The result at an index -/

variable {m ρ} {w : Words}

theorem ask_eq (t : Dev nD) (j : Fin 64) :
    ask m ρ t (ix1 j) = ixs m ρ t (ix1 (⟨64 * t.val + j.val, by have : t.val < 16 := t.isLt; omega⟩ : Fin 1024)) := by
  show ixs m ρ t ((Rect.unit (s := S1024) (k0_off2 t) S64.size (k0_off2_inb t)).toLoadRect.idx (ix1 j)) = _
  have h : k0_off2 t 0 = 64 * t.val := by rw [k0_off2_eq]; rfl
  refine congrArg (ixs m ρ t) (funext fun a => Fin.ext ?_)
  match a with
  | ⟨0, _⟩ =>
    show k0_off2 t 0 + 1 * j.val = 64 * t.val + j.val
    omega

theorem result_apply (hv : ∀ (c : Dev nD) n, m ((c : Thread nD τ).loc main_arg1) (ix1 n) = BitVec.ofNat 32 (w n)) (hs : Served w)
    (n : Fin 1024) (k : Fin 512) :
    result m ρ (ix2 n k) = m (((⟨w n / 4096, hs.owner_lt n⟩ : Dev nD) : Thread nD τ).loc main_arg0)
      (ix2 (⟨w n % 4096, Nat.mod_lt _ (by decide)⟩ : Fin 4096) k) := by
  have hn := n.isLt
  have ht : n.val / 64 < 16 := by omega
  show answer m ρ (⟨n.val / 64, ht⟩ : Fin 16) (ix2 (n0 := 64) (n1 := 512) (⟨n.val % 64, Nat.mod_lt _ (by decide)⟩ : Fin 64) k) = _
  have ha : ∀ j, ask m ρ (⟨n.val / 64, ht⟩ : Fin 16) (ix1 j)
      = BitVec.ofNat 32 ((fun j : Fin 64 => w ⟨64 * (n.val / 64) + j.val, by omega⟩) j) := fun j => by
    rw [ask_eq, ixs_eq, hv]
  unfold answer
  refine (answer_apply hs (n.val / 64) ht n ⟨n.val % 64, Nat.mod_lt _ (by decide)⟩ (by show n.val = 64 * (n.val / 64) + n.val % 64; omega)
    (fun x y hy => by congr 1; exact Fin.ext hy.symm) ha _ k).trans ?_
  have hd := hs.owner_lt n
  have hq := hs.place_lt n
  show packed m ρ (⟨w n / 4096, hd⟩ : Fin 16) (ix2 (n0 := 256) (n1 := 512) (⟨16 * (n.val / 64) + place w n, by omega⟩ : Fin 256) k) = _
  unfold packed
  refine (packed_apply (d := (⟨w n / 4096, hd⟩ : Fin 16)) (fun y => (congrFun (ixs_eq m ρ _) _).trans (hv _ y)) hs _ n rfl _ rfl k).trans ?_
  exact congrFun (tb_eq m ρ _) _

/-! ## What the reference's gather reads -/

open Cert.ReferenceIdeal in
/-- A word inside the table names its own row: nothing to wrap, nothing to clamp. -/
theorem gather_apply (tbl : FVec Ideal Cert.ReferenceIdeal.S65536x512 .bf16) (x : IVec Cert.ReferenceIdeal.S1024 32)
    (hx : ∀ n, x (ix1 n) = BitVec.ofNat 32 (w n)) (hw : ∀ n, w n < 65536) (n : Fin 1024) (k : Fin 512)
    (hb0 : Cert.ReferenceIdeal.S_.BroadcastsInDim Cert.ReferenceIdeal.S1024 ![])
    (hb1 : Cert.ReferenceIdeal.S1024.BroadcastsInDim Cert.ReferenceIdeal.S1024x1 ![0])
    (dims : GatherDims Cert.ReferenceIdeal.S65536x512 Cert.ReferenceIdeal.S1024x1 Cert.ReferenceIdeal.S1024x512)
    (hoff : dims.offsetDims = [1]) (hcoll : dims.collapsedSliceDims = [0]) (hob : dims.operandBatchingDims = [])
    (hsim : dims.startIndexMap = [0]) (hivd : dims.indexVectorDim = 1) :
    Host.gather dims tbl (broadcastInDim Cert.ReferenceIdeal.S1024x1 ![0] hb1
      (select (cmpi .slt x (broadcastInDim Cert.ReferenceIdeal.S1024 ![] hb0 (constantI Cert.ReferenceIdeal.S_ 32 0#32)))
        (addi x (broadcastInDim Cert.ReferenceIdeal.S1024 ![] hb0 (constantI Cert.ReferenceIdeal.S_ 32 65536#32))) x)) (ix2 n k)
      = tbl (ix2 (⟨w n, hw n⟩ : Fin 65536) k) := by
  refine Routing.gather_row dims hoff hcoll hob hsim hivd tbl _ n k ⟨w n, hw n⟩ ?_ (by decide)
  pointwise
  rw [hx]
  have hlt := hw n
  rw [show (0#32) = BitVec.ofNat 32 0 from rfl, cmp_slt _ _ (by omega) (by omega), pick_bit, if_neg (by omega)]

end Cert.Lookup
-- ==== Proof.lean ====
/-
# The claims of the embedding lookup, put together
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Served
public import proofs.«01_k».proof.Proof.Value
public import Idealize.ShloMosaic.Lib.Quiescent

@[expose] public section

set_option maxRecDepth 20000

noncomputable section

namespace Cert.Proof

open Idealize.ShloMosaic Idealize.SL.Sem Cert.Lookup

/-- The run of the mesh, read at the argument arrays and the counters, for any float values. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c 0).trans (final_table m ρ c), (h.1 c 1).trans (final_idx m ρ c)⟩, h.2⟩)
    (run_main (F := F) m ρ)

theorem frame_ideal : Cert.quiescent_KernelIdeal := fun m ρ _ => frame_any (F := Ideal) m ρ

section Same
variable {F : FTy → Type} [FloatOps F]

/-- The two programs are the same text: their bodies agree, so their labels' meanings do. -/
theorem body_same : Cert.Kernel.cc0_body (F := F) = Cert.KernelIdeal.cc0_body (F := F) := rfl

theorem labels_same : Cert.Kernel.defs₀ (F := F) = Cert.KernelIdeal.defs₀ (F := F) := by
  unfold Cert.Kernel.defs₀ Cert.KernelIdeal.defs₀
  refine congrArg (Defs.onTc (nD := Cert.KernelIdeal.nD) (τ := Cert.KernelIdeal.τ) (sig := Cert.KernelIdeal.sig) (Val := Elt F) (Λ := Cert.KernelIdeal.Λ₀)) ?_
  funext l x
  match l, x with
  | 0, (t, s) => rfl
  | ⟨n + 1, h⟩, _ => exact absurd h (Nat.not_lt.2 (Nat.le_add_left _ _))

theorem defs_same : Cert.Kernel.defs (F := F) = Cert.KernelIdeal.defs (F := F) := by
  unfold Cert.Kernel.defs Cert.KernelIdeal.defs
  rw [labels_same]
  rfl

end Same

/-- The kernel as printed is the same text, read at words. -/
theorem frame_kernel : Cert.quiescent_Kernel := fun m ρ _ => by
  rw [defs_same]
  exact frame_any (F := Bits) m ρ

/-- The reference's run, read at its arguments; it declares no semaphore. -/
theorem frame_reference : Cert.quiescent_ReferenceIdeal := fun m ρ _ =>
  (θ_run Cert.ReferenceIdeal.defs _ _).mono (fun r h => ⟨fun c => ⟨(h c).2.1, (h c).2.2⟩, sem_eq_zero_of_no_sems (by decide) r.2⟩)
    (Cert.ReferenceIdeal.Value.run (F := Ideal) m ρ)

/-! ## The value -/

/-- The side conditions of the precondition as read over the whole table. -/
theorem pre_facts_whole : Cert.Pre_served_ReferenceIdeal.Facts where
  bcast_S_S1024 := by decide
  shapeCasts_S1024_S1024x1 := by decide
  bcast_S1024x1_S1024x16_0_1 := by decide
  natLt_1_32 := by decide
  reducesTo_S1024_S_d0 := by decide
  h_S_ := by decide
  reducesTo_S1024x16_S16_d0 := by decide
  bcast_S_S16 := by decide
  reducesTo_S16_S_d0 := by decide
  shapeCasts_S1024x16_S16x64x16 := by decide
  reducesTo_S16x64x16_S16x16_d1 := by decide
  bcast_S_S16x16 := by decide
  reducesTo_S16x16_S_d0_1 := by decide

/-- On served words every device's result is the reference's gather: row `n` is the table's row at word `n`, which the
    word's owner holds. -/
theorem value : Cert.algebraic_KernelIdeal_ReferenceIdeal_pre_served_KernelIdeal (hPre_served_KernelIdeal := pre_facts) := by
  intro m g m' g' hpre hagree
  haveI := pre_facts
  refine ⟨_, ?_, (θ_run Cert.ReferenceIdeal.defs _ _).mono (fun r h => h 0) (Cert.ReferenceIdeal.Value.run (F := Ideal) m' g')⟩
  refine (θ_run Cert.KernelIdeal.defs _ _).mono
    (fun r h c => ⟨(h.1 c 2).trans ((final_result m g c).trans ?_), (h.1 c 0).trans (final_table m g c), (h.1 c 1).trans (final_idx m g c)⟩)
    (run_main (F := Ideal) m g)
  generalize hx : m' (((0 : Dev Cert.ReferenceIdeal.nD).tc : Thread Cert.ReferenceIdeal.nD Cert.ReferenceIdeal.τ).loc Cert.ReferenceIdeal.main_arg1) = x at hagree ⊢
  generalize ht : m' (((0 : Dev Cert.ReferenceIdeal.nD).tc : Thread Cert.ReferenceIdeal.nD Cert.ReferenceIdeal.τ).loc Cert.ReferenceIdeal.main_arg0) = tbl at hagree ⊢
  have hs : Served (fun n => (x (ix1 n)).toNat) := by
    have := served_of _ _ (hpre 0)
    rw [(hagree 0).2] at this
    exact this
  have hword : ∀ n : Fin 1024, x (ix1 n) = BitVec.ofNat 32 (x (ix1 n)).toNat := fun n => by simp
  funext i
  rw [eq_ix2 (n0 := 1024) (n1 := 512) i]
  refine (result_apply (w := fun n => (x (ix1 n)).toNat)
    (fun c n => (congrFun (hagree c).2 (ix1 n)).trans (hword n)) hs (i 0) (i 1)).trans ?_
  refine Eq.trans ?_ (gather_apply (w := fun n => (x (ix1 n)).toNat) tbl x hword hs.inTable (i 0) (i 1) _ _ _ rfl rfl rfl rfl rfl).symm
  refine (congrFun (hagree _).1 _).trans ?_
  refine congrArg tbl (funext fun a => Fin.ext ?_)
  match a with
  | ⟨0, _⟩ =>
    show (x (ix1 (i 0))).toNat / 4096 * 4096 + (x (ix1 (i 0))).toNat % 4096 = (x (ix1 (i 0))).toNat
    omega
  | ⟨1, _⟩ => rfl

theorem claim : Cert.Claim := ⟨Cert.Kernel.Gen.facts, Cert.KernelIdeal.Gen.facts, Cert.ReferenceIdeal.Gen.facts, pre_facts, pre_facts_whole,
  frame_kernel, frame_ideal, fun m ρ _ => frame_any (F := Ideal) m ρ, frame_reference, fun m ρ _ => frame_reference m ρ trivial, trivial, value⟩

end Cert.Proof

end
